-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S4x4096x1024 : Shape := ⟨3, ![4, 4096, 1024]⟩
abbrev S1x1024x3584 : Shape := ⟨3, ![1, 1024, 3584]⟩
abbrev S2x512 : Shape := ⟨2, ![2, 512]⟩
abbrev S1x512 : Shape := ⟨2, ![1, 512]⟩
abbrev S1x3x512 : Shape := ⟨3, ![1, 3, 512]⟩
abbrev S1x1024x1024 : Shape := ⟨3, ![1, 1024, 1024]⟩
abbrev S1x1024 : Shape := ⟨2, ![1, 1024]⟩
abbrev S1024x3584 : Shape := ⟨2, ![1024, 3584]⟩
abbrev S3x512 : Shape := ⟨2, ![3, 512]⟩
abbrev S1024x1024 : Shape := ⟨2, ![1024, 1024]⟩
abbrev S1x512x1024 : Shape := ⟨3, ![1, 512, 1024]⟩
abbrev S512x3584 : Shape := ⟨2, ![512, 3584]⟩
abbrev S4x128x128 : Shape := ⟨3, ![4, 128, 128]⟩
abbrev S520x512 : Shape := ⟨2, ![520, 512]⟩
abbrev S512x1024 : Shape := ⟨2, ![512, 1024]⟩
abbrev S8x512 : Shape := ⟨2, ![8, 512]⟩
abbrev S512 : Shape := ⟨1, ![512]⟩
abbrev S64x64 : Shape := ⟨2, ![64, 64]⟩
abbrev S64x192 : Shape := ⟨2, ![64, 192]⟩
abbrev S1024x512 : Shape := ⟨2, ![1024, 512]⟩
abbrev S512x512 : Shape := ⟨2, ![512, 512]⟩
abbrev S64x512 : Shape := ⟨2, ![64, 512]⟩
abbrev S192x512 : Shape := ⟨2, ![192, 512]⟩
abbrev S64x128 : Shape := ⟨2, ![64, 128]⟩
abbrev S128x128 : Shape := ⟨2, ![128, 128]⟩
abbrev S1x128x128 : Shape := ⟨3, ![1, 128, 128]⟩
abbrev S1x128 : Shape := ⟨2, ![1, 128]⟩
abbrev S64 : Shape := ⟨1, ![64]⟩
abbrev S64x1 : Shape := ⟨2, ![64, 1]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1x1024x3584, .f32⟩
  | .hbm, ⟨2, _⟩ => ⟨S2x512, .f32⟩
  | .hbm, ⟨3, _⟩ => ⟨S1x512, .f32⟩
  | .hbm, ⟨4, _⟩ => ⟨S1x3x512, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1024x3584, .f32⟩
  | .hbm, ⟨9, _⟩ => ⟨S1024x3584, .bf16⟩
  | .hbm, ⟨10, _⟩ => ⟨S3x512, .f32⟩
  | .hbm, ⟨11, _⟩ => ⟨S1024x1024, .f32⟩
  | .hbm, ⟨12, _⟩ => ⟨S1024x1024, .bf16⟩
  | .hbm, ⟨13, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3584, .bf16⟩
  | .local _ .vmem, ⟨3, _⟩ => ⟨S2x512, .f32⟩
  | .local _ .vmem, ⟨4, _⟩ => ⟨S1x512, .f32⟩
  | .local _ .vmem, ⟨5, _⟩ => ⟨S3x512, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S512x3584, .f32⟩
  | .local _ .vmem, ⟨12, _⟩ => ⟨S4x128x128, .f32⟩
  | .local _ .vmem, ⟨13, _⟩ => ⟨S520x512, .f32⟩
  | .local _ .vmem, ⟨14, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x4096x1024 : Shape := ⟨3, ![4, 4096, 1024]⟩
abbrev S1x1024x3584 : Shape := ⟨3, ![1, 1024, 3584]⟩
abbrev S2x512 : Shape := ⟨2, ![2, 512]⟩
abbrev S1x512 : Shape := ⟨2, ![1, 512]⟩
abbrev S1x3x512 : Shape := ⟨3, ![1, 3, 512]⟩
abbrev S1x1024x1024 : Shape := ⟨3, ![1, 1024, 1024]⟩
abbrev S1x1024 : Shape := ⟨2, ![1, 1024]⟩
abbrev S_ : Shape := ⟨0, ![]⟩
abbrev S512 : Shape := ⟨1, ![512]⟩
abbrev S1024x3584 : Shape := ⟨2, ![1024, 3584]⟩
abbrev S3x512 : Shape := ⟨2, ![3, 512]⟩
abbrev S1024x1024 : Shape := ⟨2, ![1024, 1024]⟩
abbrev S4x4096x3584 : Shape := ⟨3, ![4, 4096, 3584]⟩
abbrev S4x4096x512 : Shape := ⟨3, ![4, 4096, 512]⟩
abbrev S1x1x512 : Shape := ⟨3, ![1, 1, 512]⟩
abbrev S4x4096x4x128 : Shape := ⟨4, ![4, 4096, 4, 128]⟩
abbrev S4x64x64x4x128 : Shape := ⟨5, ![4, 64, 64, 4, 128]⟩
abbrev S64x4x4x64x128 : Shape := ⟨5, ![64, 4, 4, 64, 128]⟩
abbrev S64x4x4x1x128 : Shape := ⟨5, ![64, 4, 4, 1, 128]⟩
abbrev S64x64 : Shape := ⟨2, ![64, 64]⟩
abbrev S64x4x4x64x64 : Shape := ⟨5, ![64, 4, 4, 64, 64]⟩
abbrev S64x4x4x128 : Shape := ⟨4, ![64, 4, 4, 128]⟩
abbrev S4x4x128x128 : Shape := ⟨4, ![4, 4, 128, 128]⟩
abbrev S1x4x4x64x128 : Shape := ⟨5, ![1, 4, 4, 64, 128]⟩
abbrev S4x4x64x128 : Shape := ⟨4, ![4, 4, 64, 128]⟩
abbrev S1x4x4x128 : Shape := ⟨4, ![1, 4, 4, 128]⟩
abbrev S4x4x128 : Shape := ⟨3, ![4, 4, 128]⟩
abbrev S4x4x128x1 : Shape := ⟨4, ![4, 4, 128, 1]⟩
abbrev S4x4096x4 : Shape := ⟨3, ![4, 4096, 4]⟩
abbrev S4x4096x4x1 : Shape := ⟨4, ![4, 4096, 4, 1]⟩
abbrev S4x4098x512 : Shape := ⟨3, ![4, 4098, 512]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 252
  | .vmem => 0
  | .smem => 0
  | _ => 0

abbrev hbmTy0_0 (i : Nat) : BufTy := match i % 128 with
  | 0 => ⟨S4x4096x1024, .f32⟩
  | 1 => ⟨S1x1024x3584, .f32⟩
  | 2 => ⟨S2x512, .f32⟩
  | 3 => ⟨S1x512, .f32⟩
  | 4 => ⟨S1x3x512, .f32⟩
  | 5 => ⟨S1x1024x1024, .f32⟩
  | 6 => ⟨S1x1024, .f32⟩
  | 7 => ⟨S1x1024, .f32⟩
  | 8 => ⟨S_, .f32⟩
  | 9 => ⟨S512, .f32⟩
  | 10 => ⟨S_, .f32⟩
  | 11 => ⟨S512, .f32⟩
  | 12 => ⟨S512, .f32⟩
  | 13 => ⟨S1x512, .f32⟩
  | 14 => ⟨S2x512, .f32⟩
  | 15 => ⟨S2x512, .f32⟩
  | 16 => ⟨S2x512, .f32⟩
  | 17 => ⟨S_, .f32⟩
  | 18 => ⟨S512, .f32⟩
  | 19 => ⟨S1x512, .f32⟩
  | 20 => ⟨S2x512, .f32⟩
  | 21 => ⟨S2x512, .f32⟩
  | 22 => ⟨S_, .f32⟩
  | 23 => ⟨S_, .f32⟩
  | 24 => ⟨S2x512, .f32⟩
  | 25 => ⟨S1024x3584, .f32⟩
  | 26 => ⟨S1x512, .f32⟩
  | 27 => ⟨S512, .f32⟩
  | 28 => ⟨S512, .f32⟩
  | 29 => ⟨S3x512, .f32⟩
  | 30 => ⟨S1024x1024, .f32⟩
  | 31 => ⟨S4x4096x3584, .f32⟩
  | 32 => ⟨S4x4096x512, .f32⟩
  | 33 => ⟨S4x4096x512, .f32⟩
  | 34 => ⟨S4x4096x512, .f32⟩
  | 35 => ⟨S4x4096x512, .f32⟩
  | 36 => ⟨S4x4096x512, .f32⟩
  | 37 => ⟨S4x4096x512, .f32⟩
  | 38 => ⟨S4x4096x512, .f32⟩
  | 39 => ⟨S_, .f32⟩
  | 40 => ⟨S512, .f32⟩
  | 41 => ⟨S512, .f32⟩
  | 42 => ⟨S4x4096x512, .f32⟩
  | 43 => ⟨S4x4096x512, .f32⟩
  | 44 => ⟨S_, .f32⟩
  | 45 => ⟨S4x4096x512, .f32⟩
  | 46 => ⟨S4x4096x512, .f32⟩
  | 47 => ⟨S_, .f32⟩
  | 48 => ⟨S4x4096x512, .f32⟩
  | 49 => ⟨S4x4096x512, .f32⟩
  | 50 => ⟨S1x1x512, .f32⟩
  | 51 => ⟨S4x4096x512, .f32⟩
  | 52 => ⟨S4x4096x512, .f32⟩
  | 53 => ⟨S1x1x512, .f32⟩
  | 54 => ⟨S4x4096x512, .f32⟩
  | 55 => ⟨S4x4096x512, .f32⟩
  | 56 => ⟨S4x4096x512, .f32⟩
  | 57 => ⟨S_, .f32⟩
  | 58 => ⟨S4x4096x512, .f32⟩
  | 59 => ⟨S4x4096x512, .f32⟩
  | 60 => ⟨S4x4096x4x128, .f32⟩
  | 61 => ⟨S4x4096x4x128, .f32⟩
  | 62 => ⟨S4x4096x4x128, .f32⟩
  | 63 => ⟨S4x4096x4x128, .f32⟩
  | 64 => ⟨S4x64x64x4x128, .f32⟩
  | 65 => ⟨S64x4x4x64x128, .f32⟩
  | 66 => ⟨S4x64x64x4x128, .f32⟩
  | 67 => ⟨S64x4x4x64x128, .f32⟩
  | 68 => ⟨S4x64x64x4x128, .f32⟩
  | 69 => ⟨S64x4x4x64x128, .f32⟩
  | 70 => ⟨S4x64x64x4x128, .f32⟩
  | 71 => ⟨S64x4x4x64x128, .f32⟩
  | 72 => ⟨S_, .f32⟩
  | 73 => ⟨S_, .f32⟩
  | 74 => ⟨S64x4x4x64x128, .f32⟩
  | 75 => ⟨S64x4x4x1x128, .f32⟩
  | 76 => ⟨S64x4x4x1x128, .f32⟩
  | 77 => ⟨S_, .i1⟩
  | 78 => ⟨S64x64, .i1⟩
  | 79 => ⟨S64x64, .i32⟩
  | 80 => ⟨S_, .i32⟩
  | 81 => ⟨S64x64, .i32⟩
  | 82 => ⟨S64x64, .i32⟩
  | 83 => ⟨S64x64, .i32⟩
  | 84 => ⟨S64x64, .i1⟩
  | 85 => ⟨S_, .i1⟩
  | 86 => ⟨S64x64, .i1⟩
  | 87 => ⟨S64x64, .i1⟩
  | 88 => ⟨S64x4x4x64x128, .f32⟩
  | 89 => ⟨S64x4x4x64x128, .f32⟩
  | 90 => ⟨S64x4x4x64x128, .f32⟩
  | 91 => ⟨S64x4x4x64x128, .f32⟩
  | 92 => ⟨S64x4x4x64x128, .f32⟩
  | 93 => ⟨S64x4x4x64x128, .f32⟩
  | 94 => ⟨S64x4x4x64x128, .f32⟩
  | 95 => ⟨S64x4x4x64x128, .f32⟩
  | 96 => ⟨S64x4x4x64x64, .f32⟩
  | 97 => ⟨S_, .f32⟩
  | 98 => ⟨S_, .f32⟩
  | 99 => ⟨S64x4x4x64x64, .i1⟩
  | 100 => ⟨S64x4x4x64x64, .f32⟩
  | 101 => ⟨S64x4x4x64x64, .f32⟩
  | 102 => ⟨S64x4x4x64x128, .f32⟩
  | 103 => ⟨S64x4x4x64x128, .f32⟩
  | 104 => ⟨S64x4x4x64x128, .f32⟩
  | 105 => ⟨S64x4x4x64x128, .f32⟩
  | 106 => ⟨S64x4x4x64x128, .f32⟩
  | 107 => ⟨S64x4x4x64x128, .f32⟩
  | 108 => ⟨S64x4x4x64x128, .f32⟩
  | 109 => ⟨S64x4x4x128, .f32⟩
  | 110 => ⟨S64x4x4x128, .f32⟩
  | 111 => ⟨S_, .f32⟩
  | 112 => ⟨S4x4x128x128, .f32⟩
  | 113 => ⟨S_, .f32⟩
  | 114 => ⟨S64x4x4x64x128, .f32⟩
  | 115 => ⟨S_, .i32⟩
  | 116 => ⟨S64x4x4x64x128, .f32⟩
  | 117 => ⟨S64x4x4x64x128, .f32⟩
  | 118 => ⟨S64x4x4x64x128, .f32⟩
  | 119 => ⟨S64x4x4x128, .f32⟩
  | 120 => ⟨S_, .i32⟩
  | 121 => ⟨S4x4x128x128, .f32⟩
  | 122 => ⟨S64x4x4x64x128, .f32⟩
  | 123 => ⟨S_, .i32⟩
  | 124 => ⟨S_, .i1⟩
  | 125 => ⟨S_, .i32⟩
  | 126 => ⟨S_, .i32⟩
  | 127 => ⟨S_, .i32⟩
  | _ => ⟨S4x4096x1024, .f32⟩

abbrev hbmTy0_1 (i : Nat) : BufTy := match i % 128 with
  | 0 => ⟨S_, .i32⟩
  | 1 => ⟨S1x4x4x64x128, .f32⟩
  | 2 => ⟨S4x4x64x128, .f32⟩
  | 3 => ⟨S_, .i32⟩
  | 4 => ⟨S_, .i32⟩
  | 5 => ⟨S_, .i32⟩
  | 6 => ⟨S_, .i32⟩
  | 7 => ⟨S1x4x4x64x128, .f32⟩
  | 8 => ⟨S4x4x64x128, .f32⟩
  | 9 => ⟨S_, .i32⟩
  | 10 => ⟨S_, .i32⟩
  | 11 => ⟨S_, .i32⟩
  | 12 => ⟨S_, .i32⟩
  | 13 => ⟨S1x4x4x64x128, .f32⟩
  | 14 => ⟨S4x4x64x128, .f32⟩
  | 15 => ⟨S_, .i32⟩
  | 16 => ⟨S_, .i32⟩
  | 17 => ⟨S_, .i32⟩
  | 18 => ⟨S1x4x4x128, .f32⟩
  | 19 => ⟨S4x4x128, .f32⟩
  | 20 => ⟨S4x4x64x128, .f32⟩
  | 21 => ⟨S4x4x128x1, .f32⟩
  | 22 => ⟨S4x4x128x128, .f32⟩
  | 23 => ⟨S4x4x128x128, .f32⟩
  | 24 => ⟨S4x4x128x128, .f32⟩
  | 25 => ⟨S4x4x128x128, .f32⟩
  | 26 => ⟨S1x4x4x64x128, .f32⟩
  | 27 => ⟨S_, .i32⟩
  | 28 => ⟨S_, .i32⟩
  | 29 => ⟨S_, .i32⟩
  | 30 => ⟨S_, .i32⟩
  | 31 => ⟨S64x4x4x64x128, .f32⟩
  | 32 => ⟨S_, .i32⟩
  | 33 => ⟨S_, .i32⟩
  | 34 => ⟨S64x4x4x64x128, .f32⟩
  | 35 => ⟨S4x64x64x4x128, .f32⟩
  | 36 => ⟨S4x4096x4x128, .f32⟩
  | 37 => ⟨S4x4096x4x128, .f32⟩
  | 38 => ⟨S_, .f32⟩
  | 39 => ⟨S4x4096x4, .f32⟩
  | 40 => ⟨S4x4096x4x1, .f32⟩
  | 41 => ⟨S_, .f32⟩
  | 42 => ⟨S4x4096x4x1, .f32⟩
  | 43 => ⟨S4x4096x4x1, .f32⟩
  | 44 => ⟨S_, .f32⟩
  | 45 => ⟨S4x4096x4x1, .f32⟩
  | 46 => ⟨S4x4096x4x1, .f32⟩
  | 47 => ⟨S4x4096x4x1, .f32⟩
  | 48 => ⟨S4x4096x4x128, .f32⟩
  | 49 => ⟨S4x4096x4x128, .f32⟩
  | 50 => ⟨S4x4096x512, .f32⟩
  | 51 => ⟨S1x1x512, .f32⟩
  | 52 => ⟨S4x4096x512, .f32⟩
  | 53 => ⟨S4x4096x512, .f32⟩
  | 54 => ⟨S4x4096x512, .f32⟩
  | 55 => ⟨S4x4096x512, .f32⟩
  | 56 => ⟨S_, .f32⟩
  | 57 => ⟨S4x4096x512, .f32⟩
  | 58 => ⟨S4x4096x512, .f32⟩
  | 59 => ⟨S_, .f32⟩
  | 60 => ⟨S4x4096x512, .f32⟩
  | 61 => ⟨S4x4096x512, .f32⟩
  | 62 => ⟨S4x4096x512, .f32⟩
  | 63 => ⟨S4x4096x512, .f32⟩
  | 64 => ⟨S4x4096x512, .f32⟩
  | 65 => ⟨S_, .i32⟩
  | 66 => ⟨S_, .f32⟩
  | 67 => ⟨S4x4098x512, .f32⟩
  | 68 => ⟨S1x512, .f32⟩
  | 69 => ⟨S512, .f32⟩
  | 70 => ⟨S4x4096x512, .f32⟩
  | 71 => ⟨S1x1x512, .f32⟩
  | 72 => ⟨S4x4096x512, .f32⟩
  | 73 => ⟨S4x4096x512, .f32⟩
  | 74 => ⟨S1x512, .f32⟩
  | 75 => ⟨S512, .f32⟩
  | 76 => ⟨S4x4096x512, .f32⟩
  | 77 => ⟨S1x1x512, .f32⟩
  | 78 => ⟨S4x4096x512, .f32⟩
  | 79 => ⟨S4x4096x512, .f32⟩
  | 80 => ⟨S4x4096x512, .f32⟩
  | 81 => ⟨S1x512, .f32⟩
  | 82 => ⟨S512, .f32⟩
  | 83 => ⟨S4x4096x512, .f32⟩
  | 84 => ⟨S1x1x512, .f32⟩
  | 85 => ⟨S4x4096x512, .f32⟩
  | 86 => ⟨S4x4096x512, .f32⟩
  | 87 => ⟨S4x4096x512, .f32⟩
  | 88 => ⟨S4x4096x512, .f32⟩
  | 89 => ⟨S4x4096x1024, .f32⟩
  | 90 => ⟨S4x4096x1024, .f32⟩
  | 91 => ⟨S_, .f32⟩
  | 92 => ⟨S4x4096x1024, .f32⟩
  | 93 => ⟨S4x4096x1024, .f32⟩
  | 94 => ⟨S4x4096x1024, .f32⟩
  | 95 => ⟨S1024, .f32⟩
  | 96 => ⟨S1024, .f32⟩
  | 97 => ⟨S_, .f32⟩
  | 98 => ⟨S4x4096, .f32⟩
  | 99 => ⟨S4x4096x1, .f32⟩
  | 100 => ⟨S_, .f32⟩
  | 101 => ⟨S4x4096x1, .f32⟩
  | 102 => ⟨S4x4096x1, .f32⟩
  | 103 => ⟨S4x4096x1024, .f32⟩
  | 104 => ⟨S4x4096x1024, .f32⟩
  | 105 => ⟨S4x4096x1024, .f32⟩
  | 106 => ⟨S_, .f32⟩
  | 107 => ⟨S4x4096, .f32⟩
  | 108 => ⟨S4x4096x1, .f32⟩
  | 109 => ⟨S_, .f32⟩
  | 110 => ⟨S4x4096x1, .f32⟩
  | 111 => ⟨S4x4096x1, .f32⟩
  | 112 => ⟨S_, .f32⟩
  | 113 => ⟨S4x4096x1, .f32⟩
  | 114 => ⟨S4x4096x1, .f32⟩
  | 115 => ⟨S4x4096x1, .f32⟩
  | 116 => ⟨S4x4096x1024, .f32⟩
  | 117 => ⟨S4x4096x1024, .f32⟩
  | 118 => ⟨S1x1x1024, .f32⟩
  | 119 => ⟨S4x4096x1024, .f32⟩
  | 120 => ⟨S4x4096x1024, .f32⟩
  | 121 => ⟨S1x1x1024, .f32⟩
  | 122 => ⟨S4x4096x1024, .f32⟩
  | 123 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_call0_cst : Ref sig .tc := ⟨.hbm, 22, rfl⟩
abbrev main_call0_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call1_call0_cst : Ref sig .tc := ⟨.hbm, 72, rfl⟩
abbrev main_call1_call0_v0 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c : Ref sig .tc := ⟨.hbm, 77, rfl⟩
abbrev main_v58 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_c_0 : Ref sig .tc := ⟨.hbm, 85, rfl⟩
abbrev main_call2_v5 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_6 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_7 : Ref sig .tc := ⟨.hbm, 111, rfl⟩
abbrev main_v79 : Ref sig .tc := ⟨.hbm, 112, rfl⟩
abbrev main_cst_8 : Ref sig .tc := ⟨.hbm, 113, rfl⟩
abbrev main_v80 : Ref sig .tc := ⟨.hbm, 114, rfl⟩
abbrev main_c_9 : Ref sig .tc := ⟨.hbm, 115, rfl⟩
abbrev main_v81_0 : Ref sig .tc := ⟨.hbm, 116, rfl⟩
abbrev main_v81_1 : Ref sig .tc := ⟨.hbm, 117, rfl⟩
abbrev main_v81_2 : Ref sig .tc := ⟨.hbm, 118, rfl⟩
abbrev main_v81_3 : Ref sig .tc := ⟨.hbm, 119, rfl⟩
abbrev main_v81_4 : Ref sig .tc := ⟨.hbm, 120, rfl⟩
abbrev main_v81_5 : Ref sig .tc := ⟨.hbm, 121, rfl⟩
abbrev main_v81_6 : Ref sig .tc := ⟨.hbm, 122, rfl⟩
abbrev main_while0c_c_26 : Ref sig .tc := ⟨.hbm, 123, rfl⟩
abbrev main_while0c_v153 : Ref sig .tc := ⟨.hbm, 124, rfl⟩
abbrev main_while0b_call4_c : Ref sig .tc := ⟨.hbm, 125, rfl⟩
abbrev main_while0b_call4_c_0 : Ref sig .tc := ⟨.hbm, 126, rfl⟩
abbrev main_while0b_call4_c_1 : Ref sig .tc := ⟨.hbm, 127, rfl⟩
abbrev main_while0b_call4_c_2 : Ref sig .tc := ⟨.hbm, 128, rfl⟩
abbrev main_while0b_call4_v0 : Ref sig .tc := ⟨.hbm, 129, rfl⟩
abbrev main_while0b_v153 : Ref sig .tc := ⟨.hbm, 130, rfl⟩
abbrev main_while0b_call5_c : Ref sig .tc := ⟨.hbm, 131, rfl⟩
abbrev main_while0b_call5_c_0 : Ref sig .tc := ⟨.hbm, 132, rfl⟩
abbrev main_while0b_call5_c_1 : Ref sig .tc := ⟨.hbm, 133, rfl⟩
abbrev main_while0b_call5_c_2 : Ref sig .tc := ⟨.hbm, 134, rfl⟩
abbrev main_while0b_call5_v0 : Ref sig .tc := ⟨.hbm, 135, rfl⟩
abbrev main_while0b_v154 : Ref sig .tc := ⟨.hbm, 136, rfl⟩
abbrev main_while0b_call6_c : Ref sig .tc := ⟨.hbm, 137, rfl⟩
abbrev main_while0b_call6_c_0 : Ref sig .tc := ⟨.hbm, 138, rfl⟩
abbrev main_while0b_call6_c_1 : Ref sig .tc := ⟨.hbm, 139, rfl⟩
abbrev main_while0b_call6_c_2 : Ref sig .tc := ⟨.hbm, 140, rfl⟩
abbrev main_while0b_call6_v0 : Ref sig .tc := ⟨.hbm, 141, rfl⟩
abbrev main_while0b_v155 : Ref sig .tc := ⟨.hbm, 142, rfl⟩
abbrev main_while0b_call7_c : Ref sig .tc := ⟨.hbm, 143, rfl⟩
abbrev main_while0b_call7_c_0 : Ref sig .tc := ⟨.hbm, 144, rfl⟩
abbrev main_while0b_call7_c_1 : Ref sig .tc := ⟨.hbm, 145, rfl⟩
abbrev main_while0b_call7_v0 : Ref sig .tc := ⟨.hbm, 146, rfl⟩
abbrev main_while0b_v156 : Ref sig .tc := ⟨.hbm, 147, rfl⟩
abbrev main_while0b_v157 : Ref sig .tc := ⟨.hbm, 148, rfl⟩
abbrev main_while0b_v158 : Ref sig .tc := ⟨.hbm, 149, rfl⟩
abbrev main_while0b_v159 : Ref sig .tc := ⟨.hbm, 150, rfl⟩
abbrev main_while0b_v160 : Ref sig .tc := ⟨.hbm, 151, rfl⟩
abbrev main_while0b_v161 : Ref sig .tc := ⟨.hbm, 152, rfl⟩
abbrev main_while0b_v162 : Ref sig .tc := ⟨.hbm, 153, rfl⟩
abbrev main_while0b_call8_v0 : Ref sig .tc := ⟨.hbm, 154, rfl⟩
abbrev main_while0b_call8_c : Ref sig .tc := ⟨.hbm, 155, rfl⟩
abbrev main_while0b_call8_c_0 : Ref sig .tc := ⟨.hbm, 156, rfl⟩
abbrev main_while0b_call8_c_1 : Ref sig .tc := ⟨.hbm, 157, rfl⟩
abbrev main_while0b_call8_c_2 : Ref sig .tc := ⟨.hbm, 158, rfl⟩
abbrev main_while0b_v163 : Ref sig .tc := ⟨.hbm, 159, rfl⟩
abbrev main_while0b_c_26 : Ref sig .tc := ⟨.hbm, 160, rfl⟩
abbrev main_while0b_v164 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_cst_10 : Ref sig .tc := ⟨.hbm, 166, rfl⟩
abbrev main_v86 : Ref sig .tc := ⟨.hbm, 167, rfl⟩
abbrev main_v87 : Ref sig .tc := ⟨.hbm, 168, rfl⟩
abbrev main_cst_11 : Ref sig .tc := ⟨.hbm, 169, rfl⟩
abbrev main_v88 : Ref sig .tc := ⟨.hbm, 170, rfl⟩
abbrev main_v89 : Ref sig .tc := ⟨.hbm, 171, rfl⟩
abbrev main_cst_12 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_call9_v0 : Ref sig .tc := ⟨.hbm, 182, rfl⟩
abbrev main_call9_v1 : Ref sig .tc := ⟨.hbm, 183, rfl⟩
abbrev main_call9_cst : Ref sig .tc := ⟨.hbm, 184, rfl⟩
abbrev main_call9_v2 : Ref sig .tc := ⟨.hbm, 185, rfl⟩
abbrev main_call9_v3 : Ref sig .tc := ⟨.hbm, 186, rfl⟩
abbrev main_call9_cst_0 : Ref sig .tc := ⟨.hbm, 187, rfl⟩
abbrev main_call9_v4 : Ref sig .tc := ⟨.hbm, 188, rfl⟩
abbrev main_call9_v5 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_c_13 : Ref sig .tc := ⟨.hbm, 193, rfl⟩
abbrev main_call10_v0 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_cst_14 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_cst_15 : Ref sig .tc := ⟨.hbm, 225, rfl⟩
abbrev main_v131 : Ref sig .tc := ⟨.hbm, 226, rfl⟩
abbrev main_v132 : Ref sig .tc := ⟨.hbm, 227, rfl⟩
abbrev main_cst_16 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_cst_17 : Ref sig .tc := ⟨.hbm, 234, rfl⟩
abbrev main_v138 : Ref sig .tc := ⟨.hbm, 235, rfl⟩
abbrev main_v139 : Ref sig .tc := ⟨.hbm, 236, rfl⟩
abbrev main_cst_18 : Ref sig .tc := ⟨.hbm, 237, rfl⟩
abbrev main_v140 : Ref sig .tc := ⟨.hbm, 238, rfl⟩
abbrev main_v141 : Ref sig .tc := ⟨.hbm, 239, rfl⟩
abbrev main_cst_19 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4096x1024 : Shape := ⟨3, ![4, 4096, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S16384x1024 : Shape := ⟨2, ![16384, 1024]⟩
abbrev S1024x4096 : Shape := ⟨2, ![1024, 4096]⟩
abbrev S4096x1024 : Shape := ⟨2, ![4096, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S1024x4096, .f32⟩
  | .hbm, ⟨7, _⟩ => ⟨S1024x4096, .bf16⟩
  | .hbm, ⟨8, _⟩ => ⟨S4096x1024, .f32⟩
  | .hbm, ⟨9, _⟩ => ⟨S4096x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x4096x1024 : Shape := ⟨3, ![4, 4096, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S_ : Shape := ⟨0, ![]⟩
abbrev S1024x4096 : Shape := ⟨2, ![1024, 4096]⟩
abbrev S4096x1024 : Shape := ⟨2, ![4096, 1024]⟩
abbrev S4x4096x4096 : Shape := ⟨3, ![4, 4096, 4096]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4x4096x1024, .f32⟩
  | .hbm, ⟨7, _⟩ => ⟨S4x4096x1024, .f32⟩
  | .hbm, ⟨8, _⟩ => ⟨S1024x4096, .f32⟩
  | .hbm, ⟨9, _⟩ => ⟨S4096x1024, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x1024, .f32⟩
  | .hbm, ⟨16, _⟩ => ⟨S4x4096x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1, .f32⟩
  | .hbm, ⟨38, _⟩ => ⟨S4x4096x1024, .f32⟩
  | .hbm, ⟨39, _⟩ => ⟨S4x4096x1024, .f32⟩
  | .hbm, ⟨40, _⟩ => ⟨S1x1x1024, .f32⟩
  | .hbm, ⟨41, _⟩ => ⟨S4x4096x1024, .f32⟩
  | .hbm, ⟨42, _⟩ => ⟨S4x4096x1024, .f32⟩
  | .hbm, ⟨43, _⟩ => ⟨S1x1x1024, .f32⟩
  | .hbm, ⟨44, _⟩ => ⟨S4x4096x1024, .f32⟩
  | .hbm, ⟨45, _⟩ => ⟨S4x4096x1024, .f32⟩
  | .hbm, ⟨46, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.Mlp.lean ====
module

public import proofs.«01_k».proof.Defs
public import proofs.«01_k».proof.Proof.Gen.Kernel2Ideal.Value
public import proofs.«01_k».proof.Proof.Gen.Reference2Ideal.Run
public import Idealize.ShloMosaic.Lib.Pipeline.Value
public import Idealize.ShloMosaic.Lib.Pointwise
public import Idealize.ShloMosaic.Lib.Tactic.CleanTypes
public import Idealize.ShloMosaic.Lib.Pipeline.ValueKit
public import Idealize.ShloMosaic.Lib.Claim
public import Idealize.ShloMosaic.Lib.Quiescent

@[expose] public section

noncomputable section

namespace Cert.Mlp

open Idealize.ShloMosaic Idealize.ShloMosaic.TcCoe Idealize.SL.Sem
open Idealize.ShloMosaic.Pipeline (Dat)
open Cert.Kernel2Ideal Cert.Kernel2Ideal.Gen

/-- One hidden unit after the squared ReLU, times its row of the second weight. -/
def unit2 (h : Fin 1024 → EReal) (w1 : Fin 1024 → Fin 4096 → EReal) (w2 : Fin 4096 → Fin 1024 → EReal) (l : Fin 1024)
    (k : Fin 4096) : EReal :=
  max (∑ i, h i * w1 i k) 0 * max (∑ i, h i * w1 i k) 0 * w2 k l

/-- One row before its norm: the scaled row plus the squared-ReLU MLP of it. -/
def pre (h : Fin 1024 → EReal) (w1 : Fin 1024 → Fin 4096 → EReal) (w2 : Fin 4096 → Fin 1024 → EReal) (l : Fin 1024) : EReal :=
  Ideal.ofBits FTy.f32 1066940400#32 * h l + ∑ k, unit2 h w1 w2 l k

/-- The same row with the hidden units summed in the kernel's four tiles. -/
def pre4 (h : Fin 1024 → EReal) (w1 : Fin 1024 → Fin 4096 → EReal) (w2 : Fin 4096 → Fin 1024 → EReal) (l : Fin 1024) : EReal :=
  Ideal.ofBits FTy.f32 1066940400#32 * h l +
    (∑ x : Fin 1024, unit2 h w1 w2 l ⟨x.val, by omega⟩ + ∑ x : Fin 1024, unit2 h w1 w2 l ⟨1024 + x.val, by omega⟩
      + ∑ x : Fin 1024, unit2 h w1 w2 l ⟨2048 + x.val, by omega⟩ + ∑ x : Fin 1024, unit2 h w1 w2 l ⟨3072 + x.val, by omega⟩)

/-- The mean of a row of 1024 numbers. -/
def mean (a : Fin 1024 → EReal) : EReal := Ideal.div (∑ i, a i) (Ideal.ofBits .f32 1149239296#32)

/-- The layer norm of a row: centred, divided by its deviation, scaled and shifted. -/
def lnRow (a g b : Fin 1024 → EReal) (l : Fin 1024) : EReal :=
  (a l - mean a) * Ideal.rsqrt (mean (fun i => (a i - mean a) * (a i - mean a)) + Ideal.ofBits .f32 925353388#32) * g l + b l

/-- The four tiles make the whole sum. -/
theorem pre4_eq (h : Fin 1024 → EReal) (w1 : Fin 1024 → Fin 4096 → EReal) (w2 : Fin 4096 → Fin 1024 → EReal) :
    pre4 h w1 w2 = pre h w1 w2 := by
  funext l
  unfold pre4 pre
  rw [Fin.sum_univ_two_halves 3072 1024 rfl (unit2 h w1 w2 l),
    Fin.sum_univ_two_halves 2048 1024 rfl (fun k : Fin 3072 => unit2 h w1 w2 l ⟨k.val, by omega⟩),
    Fin.sum_univ_two_halves 1024 1024 rfl (fun k : Fin 2048 => unit2 h w1 w2 l ⟨k.val, by omega⟩)]

set_option maxRecDepth 16384 in
theorem out_apply (x0 : Vec Ideal S512x1024 .f32) (x1 : Vec Ideal S1024x4096 .bf16) (x2 : Vec Ideal S4096x1024 .bf16)
    (x3 : Vec Ideal S1x1024 .f32) (x4 : Vec Ideal S1x1024 .f32) (r : Fin 512) (l : Fin 1024) :
    out0_5 x0 x1 x2 x3 x4 (ix2 r l)
      = lnRow (pre (fun i => x0 (ix2 r i)) (fun i k => x1 (ix2 i k)) (fun k j => x2 (ix2 k j)))
          (fun j => x3 (ix2 0 j)) (fun j => x4 (ix2 0 j)) l := by
  rw [← pre4_eq]
  unfold out0_5
  rw [View.canon_unit_zero (funext fun a => by fin_cases a <;> rfl)]
  unfold_payloads
  pointwise
  rfl

/-- The result's row `R` and column `l` as a function of the five arguments. -/
def fin (a0 : Vec Ideal S4x4096x1024 .f32) (a1 : Vec Ideal S1x1024x4096 .f32) (a2 : Vec Ideal S1x4096x1024 .f32)
    (a3 a4 : Vec Ideal S1x1024 .f32) (R : Fin 16384) (l : Fin 1024) : EReal :=
  lnRow (pre (fun i => a0 (ix3 ⟨R.val / 4096, by omega⟩ ⟨R.val % 4096, by omega⟩ i)) (fun i k => a1 (ix3 0 i k)) (fun k j => a2 (ix3 0 k j)))
    (fun j => a3 (ix2 0 j)) (fun j => a4 (ix2 0 j)) l

set_option maxRecDepth 16384 in
/-- The reference's result at an index. -/
theorem ref_apply (m : (ℓ : Loc Cert.Reference2Ideal.nD Cert.Reference2Ideal.τ Cert.Reference2Ideal.sig) → Buf (Elt Ideal) ℓ)
    (c : Dev Cert.Reference2Ideal.nD) (R : Fin 16384) (l : Fin 1024) :
    Cert.Reference2Ideal.Value.res_out0 m c (ix2 R l)
      = fin (m ((c.tc : Thread Cert.Reference2Ideal.nD Cert.Reference2Ideal.τ).loc Cert.Reference2Ideal.main_arg0))
          (m ((c.tc : Thread Cert.Reference2Ideal.nD Cert.Reference2Ideal.τ).loc Cert.Reference2Ideal.main_arg1))
          (m ((c.tc : Thread Cert.Reference2Ideal.nD Cert.Reference2Ideal.τ).loc Cert.Reference2Ideal.main_arg2))
          (m ((c.tc : Thread Cert.Reference2Ideal.nD Cert.Reference2Ideal.τ).loc Cert.Reference2Ideal.main_arg3))
          (m ((c.tc : Thread Cert.Reference2Ideal.nD Cert.Reference2Ideal.τ).loc Cert.Reference2Ideal.main_arg4)) R l := by
  unfold Cert.Reference2Ideal.Value.res_out0 Cert.Reference2Ideal.Value.res_main_v33
  clean_types
  pointwise
  rfl

variable (m : (ℓ : Loc nD τ sig) → Buf (Elt Ideal) ℓ) (ρ : Dev nD → PrngReg)

/-- The block index of every window at every point, decided over the 32 points. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0])

/-- Row `r` of point `t`'s block, among the 16384 rows. -/
def row (t : Fin cfg0.N) (r : Fin 512) : Fin 16384 := ⟨t.val * 512 + r.val, by have h : cfg0.N = 32 := N_0; have := t.isLt; omega⟩

/-- Point `t` stages rows `512 t …` of the reshaped first argument. -/
theorem iblk0_apply (c : Dev nD) (t : Fin cfg0.N) (r : Fin 512) (i : Fin 1024) :
    (iblk m c 0 t : Vec Ideal S512x1024 .f32) (ix2 r i)
      = (m ((c : Thread nD τ).loc main_arg0) : Vec Ideal S4x4096x1024 .f32) (ix3 ⟨(row t r).val / 4096, by omega⟩ ⟨(row t r).val % 4096, by omega⟩ i) := by
  have e : ((cfg0.win 0).blk t).view.emb (ix2 r i) = (ix2 (row t r) i : S16384x1024.Idx) := by
    blk_ext [row, (idx t).1]
  unfold iblk
  entry_read
  rw [View.read_apply]
  erw [e]
  clean_types
  pointwise
  rfl

/-- Every point stages the whole first weight, -/
theorem iblk1_apply (c : Dev nD) (t : Fin cfg0.N) (i : Fin 1024) (k : Fin 4096) :
    (iblk m c 1 t : Vec Ideal S1024x4096 .bf16) (ix2 i k) = (m ((c : Thread nD τ).loc main_arg1) : Vec Ideal S1x1024x4096 .f32) (ix3 0 i k) := by
  have e : ((cfg0.win 1).blk t).view.emb (ix2 i k) = (ix2 i k : S1024x4096.Idx) := by
    blk_ext [(idx t).2.1]
  unfold iblk
  entry_read
  rw [View.read_apply]
  erw [e]
  clean_types
  pointwise
  rfl

/-- the whole second weight, -/
theorem iblk2_apply (c : Dev nD) (t : Fin cfg0.N) (i : Fin 4096) (k : Fin 1024) :
    (iblk m c 2 t : Vec Ideal S4096x1024 .bf16) (ix2 i k) = (m ((c : Thread nD τ).loc main_arg2) : Vec Ideal S1x4096x1024 .f32) (ix3 0 i k) := by
  have e : ((cfg0.win 2).blk t).view.emb (ix2 i k) = (ix2 i k : S4096x1024.Idx) := by
    blk_ext [(idx t).2.2.1]
  unfold iblk
  entry_read
  rw [View.read_apply]
  erw [e]
  clean_types
  pointwise
  rfl

/-- the norm's gain -/
theorem iblk3_apply (c : Dev nD) (t : Fin cfg0.N) (j : Fin 1024) :
    (iblk m c 3 t : Vec Ideal S1x1024 .f32) (ix2 0 j) = (m ((c : Thread nD τ).loc main_arg3) : Vec Ideal S1x1024 .f32) (ix2 0 j) := by
  have e : ((cfg0.win 3).blk t).view.emb (ix2 0 j) = (ix2 0 j : S1x1024.Idx) := by
    blk_ext [(idx t).2.2.2.1]
  unfold iblk
  entry_read
  rw [View.read_apply]
  erw [e]
  rfl

/-- and its bias. -/
theorem iblk4_apply (c : Dev nD) (t : Fin cfg0.N) (j : Fin 1024) :
    (iblk m c 4 t : Vec Ideal S1x1024 .f32) (ix2 0 j) = (m ((c : Thread nD τ).loc main_arg4) : Vec Ideal S1x1024 .f32) (ix2 0 j) := by
  have e : ((cfg0.win 4).blk t).view.emb (ix2 0 j) = (ix2 0 j : S1x1024.Idx) := by
    blk_ext [(idx t).2.2.2.2.1]
  unfold iblk
  entry_read
  rw [View.read_apply]
  erw [e]
  rfl

/-- The kernel's result array as one function of the arguments. -/
def G (c : Dev nD) : Buf (Elt Ideal) ((c : Thread nD τ).loc main_v5) :=
  show Vec Ideal S16384x1024 .f32 from fun y =>
    fin (m ((c : Thread nD τ).loc main_arg0)) (m ((c : Thread nD τ).loc main_arg1)) (m ((c : Thread nD τ).loc main_arg2))
      (m ((c : Thread nD τ).loc main_arg3)) (m ((c : Thread nD τ).loc main_arg4)) (y 0) (y 1)

/-- What a point leaves for the result, at row `r` and column `l` of its block. -/
theorem point_apply (c : Dev nD) (t : Fin cfg0.N) (r : Fin 512) (l : Fin 1024) :
    out0_5 (iblk m c 0 t) (iblk m c 1 t) (iblk m c 2 t) (iblk m c 3 t) (iblk m c 4 t) (ix2 r l)
      = fin (m ((c : Thread nD τ).loc main_arg0)) (m ((c : Thread nD τ).loc main_arg1)) (m ((c : Thread nD τ).loc main_arg2))
      (m ((c : Thread nD τ).loc main_arg3)) (m ((c : Thread nD τ).loc main_arg4)) (row t r) l := by
  rw [out_apply]
  unfold fin
  simp only [iblk0_apply, iblk1_apply, iblk2_apply, iblk3_apply, iblk4_apply]

/-- The result array after the run. -/
theorem arr5 (c : Dev nD) : (dats m 0 c).arrAt 5 cfg0.N = G m c := by
  refine (dats m 0 c).arrAt_eq_of_covers 5 _ (by decide +kernel) fun t hf y => ?_
  blk_simp
  rw [after0_5]
  obtain ⟨r, l, rfl⟩ : ∃ (r : Fin 512) (l : Fin 1024), y = (ix2 r l : S512x1024.Idx) :=
    ⟨y 0, y 1, funext fun a => by fin_cases a <;> rfl⟩
  have e : (win0_5.blk t).view.emb (ix2 r l) = (ix2 (row t r) l : S16384x1024.Idx) := by
    blk_ext [row, (idx t).2.2.2.2.2]
  refine (point_apply m c t r l).trans ?_
  erw [e]
  rfl

/-- The run of the kernel: its result array is `G`, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (arr5 m c), (h c).2⟩) (Cert.Kernel2Ideal.Value.run_blocks m ρ)

end Cert.Mlp

namespace Cert.Proof

open Idealize.ShloMosaic Idealize.ShloMosaic.TcCoe Idealize.SL.Sem

/-- The reference's frame: its run, read at the arguments; it declares no semaphore. -/
theorem frame_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- At the extended reals the MLP call's result is the reference's, index by index. -/
theorem algebraic_mlp : Cert.algebraic_Kernel2Ideal_Reference2Ideal := by
  intro m ρ m' ρ' _ hagree
  refine ⟨fun c => Cert.Mlp.G m c, Cert.Mlp.run m ρ, ?_⟩
  refine (θ_run Cert.Reference2Ideal.defs _ _).mono (fun _ h c => ⟨(h c).1.trans ?_, (h c).2⟩)
    (Cert.Reference2Ideal.Value.run (F := Ideal) m' ρ')
  refine funext fun (y : Cert.Kernel2Ideal.S16384x1024.Idx) => ?_
  obtain ⟨r, l, rfl⟩ : ∃ (r : Fin 16384) (l : Fin 1024), y = ix2 r l :=
    ⟨y 0, y 1, funext fun a => by fin_cases a <;> rfl⟩
  refine (Cert.Mlp.ref_apply m' c r l).trans ?_
  obtain ⟨e0, e1, e2, e3, e4⟩ := hagree c
  rw [e0, e1, e2, e3, e4]
  rfl

end Cert.Proof

end
-- ==== Proof.MixSpec.lean ====
module

public import proofs.«01_k».proof.KernelIdeal
public import Idealize.ShloMosaic.Lib.Pipeline.Value
public import Idealize.ShloMosaic.Lib.Pointwise
public import Idealize.ShloMosaic.Lib.Claim

@[expose] public section

noncomputable section

/-! # The mixer written by hand, at an index

Rows and columns are natural numbers; a row of the 4096 is `n * 64 + c` (chunk `n`, row `c` of the chunk), a column of the
512 is `h * 128 + d` (head `h`, place `d`). -/

namespace Cert.Mix

open Idealize.ShloMosaic

/-- Column `o + l` of the projected row `r` of batch `b`. -/
def sec (X : (⟨3, ![4, 4096, 1024]⟩ : Shape).Idx → EReal) (W : (⟨3, ![1, 1024, 3584]⟩ : Shape).Idx → EReal) (b : Fin 4) (o r l : ℕ) : EReal :=
  if h : r < 4096 ∧ o + l < 3584 then ∑ x : Fin 1024, X (ix3 b ⟨r, h.1⟩ x) * W (ix3 0 x ⟨o + l, h.2⟩) else 0

/-- The bound below a column's rate: row 0's share of the two rows' exponentials. -/
def lower (L : (⟨2, ![2, 512]⟩ : Shape).Idx → EReal) (l : ℕ) : EReal :=
  if h : l < 512 then
    Ideal.div (Ideal.exp (L (ix2 0 ⟨l, h⟩) - Finset.fold max (Ideal.ofBits FTy.f32 4286578688#32) (fun x => L (ix2 x ⟨l, h⟩)) Finset.univ))
      (∑ i, Ideal.exp (L (ix2 i ⟨l, h⟩) - Finset.fold max (Ideal.ofBits FTy.f32 4286578688#32) (fun x => L (ix2 x ⟨l, h⟩)) Finset.univ))
  else 0

section
variable (lb : ℕ → EReal) (F Q I : ℕ → ℕ → EReal)

/-- The forget rate. -/
def rate (r l : ℕ) : EReal := lb l + (1 - lb l) * Ideal.logistic (F r l)
/-- The key: what the rate leaves. -/
def key (r l : ℕ) : EReal := 1 - rate lb F r l
/-- The log rates of a chunk added up to its row `c`. -/
def cum (n c l : ℕ) : EReal := ∑ s : Fin 64, if s.val ≤ c then Ideal.log (rate lb F (n * 64 + s.val) l) else 0
/-- One chunk's step of a head's state. -/
def step (n h : ℕ) (S : ℕ → ℕ → EReal) (e d : ℕ) : EReal :=
  S e d * Ideal.exp (cum lb F n 63 (h * 128 + d))
    + ∑ s : Fin 64, I (n * 64 + s.val) (h * 128 + e)
        * (key lb F (n * 64 + s.val) (h * 128 + d) * Ideal.exp (cum lb F n 63 (h * 128 + d) - cum lb F n s.val (h * 128 + d)))
/-- The state before chunk `n`. -/
def state : ℕ → ℕ → ℕ → ℕ → EReal
  | 0 => fun _ _ _ => 0
  | n + 1 => fun h => step lb F I n h (state n h)
/-- A query row against a key row of the same chunk. -/
def score (n h c s : ℕ) : EReal :=
  ∑ d : Fin 128, Q (n * 64 + c) (h * 128 + d.val) * Ideal.exp (cum lb F n c (h * 128 + d.val) - cum lb F n 32 (h * 128 + d.val))
    * (key lb F (n * 64 + s) (h * 128 + d.val) * Ideal.exp (cum lb F n 32 (h * 128 + d.val) - cum lb F n s (h * 128 + d.val)))
/-- The recurrence's output. -/
def rec (n h c e : ℕ) : EReal :=
  ∑ s : Fin 64, (if s.val ≤ c then score lb F Q n h c s.val else 0) * I (n * 64 + s.val) (h * 128 + e)
    + ∑ d : Fin 128, Q (n * 64 + c) (h * 128 + d.val) * Ideal.exp (cum lb F n c (h * 128 + d.val)) * state lb F I n h e d.val

variable (gn : ℕ → EReal) (G : ℕ → ℕ → EReal)
/-- The output after its norm, gain and gate. -/
def gated (n h c e : ℕ) : EReal :=
  rec lb F Q I n h c e
    * Ideal.rsqrt (Ideal.div (∑ d : Fin 128, rec lb F Q I n h c d.val * rec lb F Q I n h c d.val) (Ideal.ofBits .f32 1124073472#32)
        + Ideal.ofBits .f32 925353388#32)
    * gn (h * 128 + e) * (G (n * 64 + c) (h * 128 + e) * Ideal.logistic (G (n * 64 + c) (h * 128 + e)))

variable (B C U : ℕ → ℕ → EReal) (cw : ℕ → ℕ → EReal)
/-- The convolution's input, two rows of zeros in front. -/
def lag (r l : ℕ) : EReal := if r < 2 then 0 else C (r - 2) l * U (r - 2) l
/-- The gated short convolution. -/
def conv (r l : ℕ) : EReal := B r l * (cw 0 l * lag C U r l + cw 1 l * lag C U (r + 1) l + cw 2 l * lag C U (r + 2) l)

/-- A row of the mix: the recurrence's 512 columns, then the convolution's. -/
def mix (r q : ℕ) : EReal :=
  if q < 512 then gated lb F Q I gn G (r / 64) (q / 128) (r % 64) (q % 128) else conv B C U cw r (q - 512)
end

/-- The mean of a row of 1024 numbers. -/
def mean (a : Fin 1024 → EReal) : EReal := Ideal.div (∑ i, a i) (Ideal.ofBits .f32 1149239296#32)

/-- The layer norm of a row: centred, divided by its deviation, scaled and shifted. -/
def lnRow (a g b : Fin 1024 → EReal) (l : Fin 1024) : EReal :=
  (a l - mean a) * Ideal.rsqrt (mean (fun i => (a i - mean a) * (a i - mean a)) + Ideal.ofBits .f32 925353388#32) * g l + b l

/-! ## The cumulative sum in three pieces -/

/-- A rate is never `⊤` when the lower bound is not. -/
theorem rate_ne_top (a x : EReal) (ha : a ≠ ⊤) : a + (1 - a) * Ideal.logistic x ≠ ⊤ := by
  have hs : ∃ s : ℝ, Ideal.logistic x = (s : EReal) := by
    induction x with
    | bot => exact ⟨0, by simp⟩
    | top => exact ⟨1, by simp⟩
    | coe r => exact ⟨_, Ideal.logistic_coe r⟩
  obtain ⟨s, hs⟩ := hs
  rw [hs]
  induction a with
  | bot => simp
  | top => exact absurd rfl ha
  | coe r =>
    rw [← EReal.coe_one, ← EReal.coe_sub, ← EReal.coe_mul, ← EReal.coe_add]
    exact EReal.coe_ne_top _

theorem log_ne_top (x : EReal) (hx : x ≠ ⊤) : Ideal.log x ≠ ⊤ := by
  induction x with
  | bot => simp
  | top => exact absurd rfl hx
  | coe r =>
    rw [Ideal.log_coe]
    split
    · simp
    · exact EReal.coe_ne_top _

theorem exp_nonneg (x : EReal) : 0 ≤ Ideal.exp x := by
  induction x with
  | bot => simp
  | top => simp
  | coe r => rw [Ideal.exp_coe]; exact_mod_cast (Real.exp_pos r).le

/-- A share of two numbers that are not negative is not `⊤`. -/
theorem share_ne_top (x y : EReal) (hx : 0 ≤ x) (hy : 0 ≤ y) : Ideal.div x (x + y) ≠ ⊤ := by
  unfold Ideal.div
  split
  · rename_i h
    have : x = 0 := le_antisymm (h ▸ le_add_of_nonneg_right hy) hx
    rw [this]; simp
  · rename_i h
    induction x with
    | bot => simp at hx
    | top =>
      rw [EReal.top_add_of_ne_bot (by rintro rfl; simp at hy)]; simp
    | coe r =>
      induction y with
      | bot => simp at hy
      | top => simp
      | coe q =>
        rw [← EReal.coe_add, ← EReal.coe_inv, ← EReal.coe_mul]
        exact EReal.coe_ne_top _

/-- The bound is not `⊤`. -/
theorem lower_ne_top (L : (⟨2, ![2, 512]⟩ : Shape).Idx → EReal) (l : ℕ) : lower L l ≠ ⊤ := by
  unfold lower
  split
  · rw [Fin.sum_univ_two]
    exact share_ne_top _ _ (exp_nonneg _) (exp_nonneg _)
  · simp

/-- A number that is not `⊤`, split into itself and two remainders that are zero. -/
theorem split3 (g : EReal) (hg : g ≠ ⊤) : g + (g - g) + (g - g - (g - g)) = g := by
  induction g with
  | bot => simp
  | top => exact absurd rfl hg
  | coe r => rw [← EReal.coe_sub, sub_self]; simp

end Cert.Mix
end
-- ==== Proof.MixTile.lean ====
module

public import proofs.«01_k».proof.Proof.Gen.KernelIdeal.Value
public import proofs.«01_k».proof.Proof.MixSpec
public import Idealize.ShloMosaic.Lib.Pipeline.Value
public import Idealize.ShloMosaic.Lib.Pointwise
public import Idealize.ShloMosaic.Lib.Tactic.CleanTypes
public import Idealize.ShloMosaic.Lib.Pipeline.ValueKit
public import Idealize.ShloMosaic.Lib.Pipeline.ReadBack
public import Idealize.ShloMosaic.Lib.Claim

@[expose] public section

set_option maxRecDepth 16384
set_option maxHeartbeats 4000000

noncomputable section

namespace Cert.MixTile

open Idealize.ShloMosaic Idealize.ShloMosaic.TcCoe Idealize.SL.Sem
open Idealize.ShloMosaic.Pipeline (Dat)
open Cert.KernelIdeal Cert.KernelIdeal.Gen Cert.Mix

/-! ## Loads from the scratch arrays -/

/-- A load inside the newest store reads that store. -/
theorem load_in {sig : RefSig} {κ : Kind} {sp : Space} {M N : ℕ} {e : EltTy} (v : View sig κ sp (⟨2, ![M, N]⟩ : Shape) e)
    {p0 p1 h w r0 r1 k l : ℕ} (inb) (inb') (P : (⟨2, ![h, w]⟩ : Shape).Idx → Elt Ideal e) (L)
    (H : p0 ≤ r0 ∧ r0 + k ≤ p0 + h ∧ p1 ≤ r1 ∧ r1 + l ≤ p1 + w) :
    v.readCov (Val := Elt Ideal) (⟨Rect.unit (s := ⟨2, ![M, N]⟩) ![p0, p1] ![h, w] inb, P⟩ :: L)
      (Rect.unit (s := ⟨2, ![M, N]⟩) ![r0, r1] ![k, l] inb').toLoadRect
    = View.ld P (Rect.unit (s := ⟨2, ![h, w]⟩) ![r0 - p0, r1 - p1] ![k, l]
        (by intro a; fin_cases a <;> simp <;> omega)) := by
  rw [View.readCov_eq_canon']
  funext j
  refine Eq.trans ?_ (View.canon_cons_emb (Rect.unit (s := ⟨2, ![M, N]⟩) ![p0, p1] ![h, w] inb) P L _)
  congr 1
  funext a
  apply Fin.ext
  fin_cases a
  · simp [Rect.emb, Rect.unit, LoadRect.idx, Rect.toLoadRect]; omega
  · simp [Rect.emb, Rect.unit, LoadRect.idx, Rect.toLoadRect]; omega

/-- The 64 rows of chunk `c` of a tile's section. -/
def rows (S : Vec Ideal S512x512 .f32) (c : Fin 8) : Vec Ideal S64x512 .f32 :=
  View.ld S (Rect.unit ![64 * c.val, 0] ![64, 512] (by intro a; fin_cases a <;> simp <;> omega))

/-- The same rows, one head's 128 columns. -/
def rowsH (S : Vec Ideal S512x512 .f32) (c : Fin 8) (h : Fin 4) : Vec Ideal S64x128 .f32 :=
  View.ld S (Rect.unit ![64 * c.val, 128 * h.val] ![64, 128] (by intro a; fin_cases a <;> simp <;> omega))

/-- The keys of the tile's chunks, as the kernel's lines make them. -/
def Kall (lb : Vec Ideal S1x512 .f32) (S : Vec Ideal S512x512 .f32) : Fin 8 → Vec Ideal S64x512 .f32 := ![
  k0_pay13 lb (rows S 0),
  k0_pay16 lb (rows S 1),
  k0_pay21 lb (k0_pay18 (rows S 2)) (k0_pay19 lb),
  k0_pay24 lb (rows S 3),
  k0_pay28 lb (rows S 4),
  k0_pay33 lb (rows S 5),
  k0_pay36 lb (rows S 6),
  k0_pay40 lb (k0_pay38 lb) (rows S 7)]

/-- The cumulative log rates of the tile's chunks, as the kernel's lines make them. -/
def Ball (lb : Vec Ideal S1x512 .f32) (S : Vec Ideal S512x512 .f32) : Fin 8 → Vec Ideal S64x512 .f32 := ![
  k0_pay14 lb k0_pay8 (rows S 0),
  k0_pay17 lb k0_pay8 (rows S 1),
  k0_pay22 lb k0_pay8 (k0_pay18 (rows S 2)) (k0_pay19 lb),
  k0_pay25 lb k0_pay8 (rows S 3),
  k0_pay31 k0_pay8 (k0_pay29 lb (rows S 4)) (k0_pay30 lb (rows S 4)),
  k0_pay34 lb k0_pay8 (rows S 5),
  k0_pay37 lb k0_pay8 (rows S 6),
  k0_pay41 lb k0_pay8 (k0_pay38 lb) (rows S 7)]

theorem r0 (S : Vec Ideal S512x512 .f32) (inb) : View.ld S (Rect.unit (s := S512x512) ![0, 0] ![64, 512] inb) = rows S 0 := rfl
theorem r1 (S : Vec Ideal S512x512 .f32) (inb) : View.ld S (Rect.unit (s := S512x512) ![64, 0] ![64, 512] inb) = rows S 1 := rfl
theorem r2 (S : Vec Ideal S512x512 .f32) (inb) : View.ld S (Rect.unit (s := S512x512) ![128, 0] ![64, 512] inb) = rows S 2 := rfl
theorem r3 (S : Vec Ideal S512x512 .f32) (inb) : View.ld S (Rect.unit (s := S512x512) ![192, 0] ![64, 512] inb) = rows S 3 := rfl
theorem r4 (S : Vec Ideal S512x512 .f32) (inb) : View.ld S (Rect.unit (s := S512x512) ![256, 0] ![64, 512] inb) = rows S 4 := rfl
theorem r5 (S : Vec Ideal S512x512 .f32) (inb) : View.ld S (Rect.unit (s := S512x512) ![320, 0] ![64, 512] inb) = rows S 5 := rfl
theorem r6 (S : Vec Ideal S512x512 .f32) (inb) : View.ld S (Rect.unit (s := S512x512) ![384, 0] ![64, 512] inb) = rows S 6 := rfl
theorem r7 (S : Vec Ideal S512x512 .f32) (inb) : View.ld S (Rect.unit (s := S512x512) ![448, 0] ![64, 512] inb) = rows S 7 := rfl
theorem g00 (S : Vec Ideal S512x512 .f32) (inb) : View.ld S (Rect.unit (s := S512x512) ![0, 0] ![64, 128] inb) = rowsH S 0 0 := rfl
theorem g01 (S : Vec Ideal S512x512 .f32) (inb) : View.ld S (Rect.unit (s := S512x512) ![0, 128] ![64, 128] inb) = rowsH S 0 1 := rfl
theorem g02 (S : Vec Ideal S512x512 .f32) (inb) : View.ld S (Rect.unit (s := S512x512) ![0, 256] ![64, 128] inb) = rowsH S 0 2 := rfl
theorem g03 (S : Vec Ideal S512x512 .f32) (inb) : View.ld S (Rect.unit (s := S512x512) ![0, 384] ![64, 128] inb) = rowsH S 0 3 := rfl
theorem g10 (S : Vec Ideal S512x512 .f32) (inb) : View.ld S (Rect.unit (s := S512x512) ![64, 0] ![64, 128] inb) = rowsH S 1 0 := rfl
theorem g11 (S : Vec Ideal S512x512 .f32) (inb) : View.ld S (Rect.unit (s := S512x512) ![64, 128] ![64, 128] inb) = rowsH S 1 1 := rfl
theorem g12 (S : Vec Ideal S512x512 .f32) (inb) : View.ld S (Rect.unit (s := S512x512) ![64, 256] ![64, 128] inb) = rowsH S 1 2 := rfl
theorem g13 (S : Vec Ideal S512x512 .f32) (inb) : View.ld S (Rect.unit (s := S512x512) ![64, 384] ![64, 128] inb) = rowsH S 1 3 := rfl
theorem g20 (S : Vec Ideal S512x512 .f32) (inb) : View.ld S (Rect.unit (s := S512x512) ![128, 0] ![64, 128] inb) = rowsH S 2 0 := rfl
theorem g21 (S : Vec Ideal S512x512 .f32) (inb) : View.ld S (Rect.unit (s := S512x512) ![128, 128] ![64, 128] inb) = rowsH S 2 1 := rfl
theorem g22 (S : Vec Ideal S512x512 .f32) (inb) : View.ld S (Rect.unit (s := S512x512) ![128, 256] ![64, 128] inb) = rowsH S 2 2 := rfl
theorem g23 (S : Vec Ideal S512x512 .f32) (inb) : View.ld S (Rect.unit (s := S512x512) ![128, 384] ![64, 128] inb) = rowsH S 2 3 := rfl
theorem g30 (S : Vec Ideal S512x512 .f32) (inb) : View.ld S (Rect.unit (s := S512x512) ![192, 0] ![64, 128] inb) = rowsH S 3 0 := rfl
theorem g31 (S : Vec Ideal S512x512 .f32) (inb) : View.ld S (Rect.unit (s := S512x512) ![192, 128] ![64, 128] inb) = rowsH S 3 1 := rfl
theorem g32 (S : Vec Ideal S512x512 .f32) (inb) : View.ld S (Rect.unit (s := S512x512) ![192, 256] ![64, 128] inb) = rowsH S 3 2 := rfl
theorem g33 (S : Vec Ideal S512x512 .f32) (inb) : View.ld S (Rect.unit (s := S512x512) ![192, 384] ![64, 128] inb) = rowsH S 3 3 := rfl
theorem g40 (S : Vec Ideal S512x512 .f32) (inb) : View.ld S (Rect.unit (s := S512x512) ![256, 0] ![64, 128] inb) = rowsH S 4 0 := rfl
theorem g41 (S : Vec Ideal S512x512 .f32) (inb) : View.ld S (Rect.unit (s := S512x512) ![256, 128] ![64, 128] inb) = rowsH S 4 1 := rfl
theorem g42 (S : Vec Ideal S512x512 .f32) (inb) : View.ld S (Rect.unit (s := S512x512) ![256, 256] ![64, 128] inb) = rowsH S 4 2 := rfl
theorem g43 (S : Vec Ideal S512x512 .f32) (inb) : View.ld S (Rect.unit (s := S512x512) ![256, 384] ![64, 128] inb) = rowsH S 4 3 := rfl
theorem g50 (S : Vec Ideal S512x512 .f32) (inb) : View.ld S (Rect.unit (s := S512x512) ![320, 0] ![64, 128] inb) = rowsH S 5 0 := rfl
theorem g51 (S : Vec Ideal S512x512 .f32) (inb) : View.ld S (Rect.unit (s := S512x512) ![320, 128] ![64, 128] inb) = rowsH S 5 1 := rfl
theorem g52 (S : Vec Ideal S512x512 .f32) (inb) : View.ld S (Rect.unit (s := S512x512) ![320, 256] ![64, 128] inb) = rowsH S 5 2 := rfl
theorem g53 (S : Vec Ideal S512x512 .f32) (inb) : View.ld S (Rect.unit (s := S512x512) ![320, 384] ![64, 128] inb) = rowsH S 5 3 := rfl
theorem g60 (S : Vec Ideal S512x512 .f32) (inb) : View.ld S (Rect.unit (s := S512x512) ![384, 0] ![64, 128] inb) = rowsH S 6 0 := rfl
theorem g61 (S : Vec Ideal S512x512 .f32) (inb) : View.ld S (Rect.unit (s := S512x512) ![384, 128] ![64, 128] inb) = rowsH S 6 1 := rfl
theorem g62 (S : Vec Ideal S512x512 .f32) (inb) : View.ld S (Rect.unit (s := S512x512) ![384, 256] ![64, 128] inb) = rowsH S 6 2 := rfl
theorem g63 (S : Vec Ideal S512x512 .f32) (inb) : View.ld S (Rect.unit (s := S512x512) ![384, 384] ![64, 128] inb) = rowsH S 6 3 := rfl
theorem g70 (S : Vec Ideal S512x512 .f32) (inb) : View.ld S (Rect.unit (s := S512x512) ![448, 0] ![64, 128] inb) = rowsH S 7 0 := rfl
theorem g71 (S : Vec Ideal S512x512 .f32) (inb) : View.ld S (Rect.unit (s := S512x512) ![448, 128] ![64, 128] inb) = rowsH S 7 1 := rfl
theorem g72 (S : Vec Ideal S512x512 .f32) (inb) : View.ld S (Rect.unit (s := S512x512) ![448, 256] ![64, 128] inb) = rowsH S 7 2 := rfl
theorem g73 (S : Vec Ideal S512x512 .f32) (inb) : View.ld S (Rect.unit (s := S512x512) ![448, 384] ![64, 128] inb) = rowsH S 7 3 := rfl
theorem k0 (lb : Vec Ideal S1x512 .f32) (S : Vec Ideal S512x512 .f32) : k0_pay13 lb (rows S 0) = Kall lb S 0 := rfl
theorem k1 (lb : Vec Ideal S1x512 .f32) (S : Vec Ideal S512x512 .f32) : k0_pay16 lb (rows S 1) = Kall lb S 1 := rfl
theorem k2 (lb : Vec Ideal S1x512 .f32) (S : Vec Ideal S512x512 .f32) : k0_pay21 lb (k0_pay18 (rows S 2)) (k0_pay19 lb) = Kall lb S 2 := rfl
theorem k3 (lb : Vec Ideal S1x512 .f32) (S : Vec Ideal S512x512 .f32) : k0_pay24 lb (rows S 3) = Kall lb S 3 := rfl
theorem k4 (lb : Vec Ideal S1x512 .f32) (S : Vec Ideal S512x512 .f32) : k0_pay28 lb (rows S 4) = Kall lb S 4 := rfl
theorem k5 (lb : Vec Ideal S1x512 .f32) (S : Vec Ideal S512x512 .f32) : k0_pay33 lb (rows S 5) = Kall lb S 5 := rfl
theorem k6 (lb : Vec Ideal S1x512 .f32) (S : Vec Ideal S512x512 .f32) : k0_pay36 lb (rows S 6) = Kall lb S 6 := rfl
theorem k7 (lb : Vec Ideal S1x512 .f32) (S : Vec Ideal S512x512 .f32) : k0_pay40 lb (k0_pay38 lb) (rows S 7) = Kall lb S 7 := rfl
theorem b0 (lb : Vec Ideal S1x512 .f32) (S : Vec Ideal S512x512 .f32) : k0_pay14 lb k0_pay8 (rows S 0) = Ball lb S 0 := rfl
theorem b1 (lb : Vec Ideal S1x512 .f32) (S : Vec Ideal S512x512 .f32) : k0_pay17 lb k0_pay8 (rows S 1) = Ball lb S 1 := rfl
theorem b2 (lb : Vec Ideal S1x512 .f32) (S : Vec Ideal S512x512 .f32) : k0_pay22 lb k0_pay8 (k0_pay18 (rows S 2)) (k0_pay19 lb) = Ball lb S 2 := rfl
theorem b3 (lb : Vec Ideal S1x512 .f32) (S : Vec Ideal S512x512 .f32) : k0_pay25 lb k0_pay8 (rows S 3) = Ball lb S 3 := rfl
theorem b4 (lb : Vec Ideal S1x512 .f32) (S : Vec Ideal S512x512 .f32) : k0_pay31 k0_pay8 (k0_pay29 lb (rows S 4)) (k0_pay30 lb (rows S 4)) = Ball lb S 4 := rfl
theorem b5 (lb : Vec Ideal S1x512 .f32) (S : Vec Ideal S512x512 .f32) : k0_pay34 lb k0_pay8 (rows S 5) = Ball lb S 5 := rfl
theorem b6 (lb : Vec Ideal S1x512 .f32) (S : Vec Ideal S512x512 .f32) : k0_pay37 lb k0_pay8 (rows S 6) = Ball lb S 6 := rfl
theorem b7 (lb : Vec Ideal S1x512 .f32) (S : Vec Ideal S512x512 .f32) : k0_pay41 lb k0_pay8 (k0_pay38 lb) (rows S 7) = Ball lb S 7 := rfl

theorem rows_apply (S : Vec Ideal S512x512 .f32) (c : Fin 8) (s : Fin 64) (l : Fin 512) :
    rows S c (ix2 s l) = S (ix2 ⟨64 * c.val + s.val, by omega⟩ l) := by
  unfold rows
  pointwise

theorem rowsH_apply (S : Vec Ideal S512x512 .f32) (c : Fin 8) (h : Fin 4) (s : Fin 64) (d : Fin 128) :
    rowsH S c h (ix2 s d) = S (ix2 ⟨64 * c.val + s.val, by omega⟩ ⟨128 * h.val + d.val, by omega⟩) := by
  unfold rowsH
  pointwise

theorem Kall_apply (lb : Vec Ideal S1x512 .f32) (S : Vec Ideal S512x512 .f32) (c : Fin 8) (s : Fin 64) (l : Fin 512) :
    Kall lb S c (ix2 s l) = 1 - (lb (ix2 0 l) + (1 - lb (ix2 0 l)) * Ideal.logistic (rows S c (ix2 s l))) := by
  fin_cases c <;> (unfold Kall; simp only [Matrix.cons_val]; unfold_payloads; pointwise)

/-- The three-piece sum with the mask's ones and zeros is the sum up to the row. -/
theorem sum3 (g : Fin 64 → EReal) (hg : ∀ s, g s ≠ ⊤) (c : Fin 64) (T : Fin 192 → EReal) (D : Fin 192 → EReal)
    (h1 : ∀ s : Fin 64, T ⟨s.val, by omega⟩ * D ⟨s.val, by omega⟩ = (if s.val ≤ c.val then 1 else 0) * g s)
    (h2 : ∀ s : Fin 64, T ⟨64 + s.val, by omega⟩ * D ⟨64 + s.val, by omega⟩ = (if s.val ≤ c.val then 1 else 0) * (g s - g s))
    (h3 : ∀ s : Fin 64, T ⟨128 + s.val, by omega⟩ * D ⟨128 + s.val, by omega⟩ = (if s.val ≤ c.val then 1 else 0) * (g s - g s - (g s - g s))) :
    ∑ x, T x * D x = ∑ s : Fin 64, if s.val ≤ c.val then g s else 0 := by
  rw [Fin.sum_univ_two_halves 128 64 rfl (fun x => T x * D x),
    Fin.sum_univ_two_halves 64 64 rfl (fun k : Fin 128 => T ⟨k.val, by omega⟩ * D ⟨k.val, by omega⟩)]
  simp only [h1, h2, h3]
  rw [← Finset.sum_add_distrib, ← Finset.sum_add_distrib]
  refine Finset.sum_congr rfl fun s _ => ?_
  split
  · simp only [one_mul]; exact split3 _ (hg s)
  · simp

/-- The mask's entry. -/
theorem mask (s c : ℕ) (hs : s < 64) (hc : c < 64) :
    (FloatOps.sitofp (F := Ideal) FTy.f32 (BitVec.setWidth 32 (IntOp.cmpi CmpIPredicate.sge (BitVec.ofNat 32 c) (BitVec.ofNat 32 s))) : EReal)
      = if s ≤ c then 1 else 0 := by
  rw [WordCmp.cmpi_sge_ofNat (by omega) (by omega)]
  by_cases h : s ≤ c
  · simp only [h, decide_true, if_true]
    show ((((BitVec.setWidth 32 (BitVec.ofBool true)).toInt : ℤ) : ℝ) : EReal) = 1
    simp
  · simp only [h, decide_false, if_false]
    show ((((BitVec.setWidth 32 (BitVec.ofBool false)).toInt : ℤ) : ℝ) : EReal) = 0
    simp

theorem Ball_apply (lb : Vec Ideal S1x512 .f32) (hlb : ∀ l, lb (ix2 0 l) ≠ ⊤) (S : Vec Ideal S512x512 .f32) (c : Fin 8) (s : Fin 64) (l : Fin 512) :
    Ball lb S c (ix2 s l) = ∑ x : Fin 64, if x.val ≤ s.val then
      Ideal.log (lb (ix2 0 l) + (1 - lb (ix2 0 l)) * Ideal.logistic (rows S c (ix2 x l))) else 0 := by
  fin_cases c <;>
  · unfold Ball
    simp only [Matrix.cons_val]
    unfold_payloads
    pointwise
    refine sum3 (fun x => Ideal.log (lb (ix2 0 l) + (1 - lb (ix2 0 l)) * Ideal.logistic (rows S _ (ix2 x l))))
      (fun x => log_ne_top _ (rate_ne_top _ _ (hlb l))) s _ _ (fun x => ?_) (fun x => ?_) (fun x => ?_)
    · simp only [x.isLt, dite_true, mask _ _ x.isLt s.isLt]
    · simp only [show ¬ 64 + x.val < 64 by omega, show 64 + x.val - 64 = x.val by omega, x.isLt, dite_true, dite_false, mask _ _ x.isLt s.isLt]
    · simp only [show ¬ 128 + x.val < 64 by omega, show ¬ 128 + x.val - 64 < 64 by omega, show 128 + x.val - 64 - 64 = x.val by omega,
        dite_false, mask _ _ x.isLt s.isLt]

/-! ## What a grid point stages -/

variable (m : (ℓ : Loc nD τ sig) → Buf (Elt Ideal) ℓ)

/-- The block index of every window at every point, decided over the 32 points. -/
theorem idx : ∀ t : Fin cfg0.N, win0_0.index t = ![t.val / 8, t.val % 8, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, win0_0.index t = ![t.val / 8, t.val % 8, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0])

/-- The batch a point works on. -/
def bat (t : Fin cfg0.N) : Fin 4 := ⟨t.val / 8, by have h : cfg0.N = 32 := N_0; have := t.isLt; omega⟩

theorem iblk0_apply (c : Dev nD) (t : Fin cfg0.N) (r : Fin 512) (i : Fin 1024) :
    (iblk m c 0 t : Vec Ideal S1x512x1024 .f32) (ix3 0 r i)
      = (m ((c : Thread nD τ).loc main_arg0) : Vec Ideal S4x4096x1024 .f32) (ix3 (bat t) ⟨t.val % 8 * 512 + r.val, by omega⟩ i) := by
  have e : ((cfg0.win 0).blk t).view.emb (ix3 0 r i) = (ix3 (bat t) ⟨t.val % 8 * 512 + r.val, by omega⟩ i : S4x4096x1024.Idx) := by
    blk_ext [bat, (idx t).1]
  unfold iblk
  entry_read
  rw [View.read_apply]
  erw [e]
  clean_types
  try pointwise
  try rfl

theorem iblk1_apply (c : Dev nD) (t : Fin cfg0.N) (i : Fin 1024) (k : Fin 3584) :
    (iblk m c 1 t : Vec Ideal S1024x3584 .bf16) (ix2 i k) = (m ((c : Thread nD τ).loc main_arg1) : Vec Ideal S1x1024x3584 .f32) (ix3 0 i k) := by
  have e : ((cfg0.win 1).blk t).view.emb (ix2 i k) = (ix2 i k : S1024x3584.Idx) := by
    blk_ext [(idx t).2.1]
  unfold iblk
  entry_read
  rw [View.read_apply]
  erw [e]
  clean_types
  pointwise
  rfl

theorem iblk2_apply (c : Dev nD) (t : Fin cfg0.N) (i : Fin 2) (k : Fin 512) :
    (iblk m c 2 t : Vec Ideal S2x512 .f32) (ix2 i k) = (m ((c : Thread nD τ).loc main_arg2) : Vec Ideal S2x512 .f32) (ix2 i k) := by
  have e : ((cfg0.win 2).blk t).view.emb (ix2 i k) = (ix2 i k : S2x512.Idx) := by
    blk_ext [(idx t).2.2.1]
  unfold iblk
  entry_read
  rw [View.read_apply]
  erw [e]
  clean_types
  try pointwise
  try rfl

theorem iblk3_apply (c : Dev nD) (t : Fin cfg0.N) (k : Fin 512) :
    (iblk m c 3 t : Vec Ideal S1x512 .f32) (ix2 0 k) = (m ((c : Thread nD τ).loc main_arg3) : Vec Ideal S1x512 .f32) (ix2 0 k) := by
  have e : ((cfg0.win 3).blk t).view.emb (ix2 0 k) = (ix2 0 k : S1x512.Idx) := by
    blk_ext [(idx t).2.2.2.1]
  unfold iblk
  entry_read
  rw [View.read_apply]
  erw [e]
  clean_types
  try pointwise
  try rfl

theorem iblk4_apply (c : Dev nD) (t : Fin cfg0.N) (i : Fin 3) (k : Fin 512) :
    (iblk m c 4 t : Vec Ideal S3x512 .f32) (ix2 i k) = (m ((c : Thread nD τ).loc main_arg4) : Vec Ideal S1x3x512 .f32) (ix3 0 i k) := by
  have e : ((cfg0.win 4).blk t).view.emb (ix2 i k) = (ix2 i k : S3x512.Idx) := by
    blk_ext [(idx t).2.2.2.2.1]
  unfold iblk
  entry_read
  rw [View.read_apply]
  erw [e]
  clean_types
  pointwise
  rfl

theorem iblk5_apply (c : Dev nD) (t : Fin cfg0.N) (i : Fin 1024) (k : Fin 1024) :
    (iblk m c 5 t : Vec Ideal S1024x1024 .bf16) (ix2 i k) = (m ((c : Thread nD τ).loc main_arg5) : Vec Ideal S1x1024x1024 .f32) (ix3 0 i k) := by
  have e : ((cfg0.win 5).blk t).view.emb (ix2 i k) = (ix2 i k : S1024x1024.Idx) := by
    blk_ext [(idx t).2.2.2.2.2.1]
  unfold iblk
  entry_read
  rw [View.read_apply]
  erw [e]
  clean_types
  pointwise
  rfl

theorem iblk6_apply (c : Dev nD) (t : Fin cfg0.N) (k : Fin 1024) :
    (iblk m c 6 t : Vec Ideal S1x1024 .f32) (ix2 0 k) = (m ((c : Thread nD τ).loc main_arg6) : Vec Ideal S1x1024 .f32) (ix2 0 k) := by
  have e : ((cfg0.win 6).blk t).view.emb (ix2 0 k) = (ix2 0 k : S1x1024.Idx) := by
    blk_ext [(idx t).2.2.2.2.2.2.1]
  unfold iblk
  entry_read
  rw [View.read_apply]
  erw [e]
  clean_types
  try pointwise
  try rfl

theorem iblk7_apply (c : Dev nD) (t : Fin cfg0.N) (k : Fin 1024) :
    (iblk m c 7 t : Vec Ideal S1x1024 .f32) (ix2 0 k) = (m ((c : Thread nD τ).loc main_arg7) : Vec Ideal S1x1024 .f32) (ix2 0 k) := by
  have e : ((cfg0.win 7).blk t).view.emb (ix2 0 k) = (ix2 0 k : S1x1024.Idx) := by
    blk_ext [(idx t).2.2.2.2.2.2.2]
  unfold iblk
  entry_read
  rw [View.read_apply]
  erw [e]
  clean_types
  try pointwise
  try rfl

/-! ## A tile's sections -/

/-- Section `o` of batch `b`'s projected rows. -/
def S (c : Dev nD) (b : Fin 4) (o : ℕ) : ℕ → ℕ → EReal :=
  sec (m ((c : Thread nD τ).loc main_arg0)) (m ((c : Thread nD τ).loc main_arg1)) b o

/-- The bound of the rates. -/
def low (c : Dev nD) (l : ℕ) : EReal := lower (m ((c : Thread nD τ).loc main_arg2)) l

set_option pp.maxSteps 20000 in
theorem low_apply (c : Dev nD) (t : Fin cfg0.N) (l : Fin 512) : k0_pay6 (iblk m c 2 t) (ix2 0 l) = low m c l.val := by
  unfold low lower
  rw [dif_pos l.isLt]
  unfold_payloads
  pointwise
  simp only [iblk2_apply]

theorem secF (c : Dev nD) (t : Fin cfg0.N) (inb) (r l : Fin 512) :
    k0_pay9 (iblk m c 0 t) (View.ld (iblk m c 1 t) (Rect.unit (s := S1024x3584) ![0, 512] ![1024, 512] inb)) (ix2 r l)
      = S m c (bat t) 512 (t.val % 8 * 512 + r.val) l.val := by
  unfold S sec
  rw [dif_pos ⟨by omega, by omega⟩]
  unfold_payloads
  pointwise
  simp only [iblk0_apply, iblk1_apply]
theorem secQ (c : Dev nD) (t : Fin cfg0.N) (inb) (r l : Fin 512) :
    k0_pay11 (k0_pay10 (iblk m c 0 t) (View.ld (iblk m c 1 t) (Rect.unit (s := S1024x3584) ![0, 0] ![1024, 512] inb))) (ix2 r l)
      = S m c (bat t) 0 (t.val % 8 * 512 + r.val) l.val := by
  unfold S sec
  rw [dif_pos ⟨by omega, by omega⟩]
  unfold_payloads
  pointwise
  simp only [iblk0_apply, iblk1_apply, Nat.zero_add]
theorem secI (c : Dev nD) (t : Fin cfg0.N) (inb) (r l : Fin 512) :
    k0_pay42 (k0_pay5 (iblk m c 0 t)) (View.ld (iblk m c 1 t) (Rect.unit (s := S1024x3584) ![0, 1024] ![1024, 512] inb)) (ix2 r l)
      = S m c (bat t) 1024 (t.val % 8 * 512 + r.val) l.val := by
  unfold S sec
  rw [dif_pos ⟨by omega, by omega⟩]
  unfold_payloads
  pointwise
  simp only [iblk0_apply, iblk1_apply]
theorem secG (c : Dev nD) (t : Fin cfg0.N) (inb) (r l : Fin 512) :
    k0_pay171 (k0_pay5 (iblk m c 0 t)) (View.ld (iblk m c 1 t) (Rect.unit (s := S1024x3584) ![0, 1536] ![1024, 512] inb)) (ix2 r l)
      = S m c (bat t) 1536 (t.val % 8 * 512 + r.val) l.val := by
  unfold S sec
  rw [dif_pos ⟨by omega, by omega⟩]
  unfold_payloads
  pointwise
  simp only [iblk0_apply, iblk1_apply]
theorem secB (c : Dev nD) (t : Fin cfg0.N) (inb) (r l : Fin 512) :
    k0_pay172 (k0_pay5 (iblk m c 0 t)) (View.ld (iblk m c 1 t) (Rect.unit (s := S1024x3584) ![0, 2048] ![1024, 512] inb)) (ix2 r l)
      = S m c (bat t) 2048 (t.val % 8 * 512 + r.val) l.val := by
  unfold S sec
  rw [dif_pos ⟨by omega, by omega⟩]
  unfold_payloads
  pointwise
  simp only [iblk0_apply, iblk1_apply]
theorem secC (c : Dev nD) (t : Fin cfg0.N) (inb) (r l : Fin 512) :
    k0_pay173 (k0_pay5 (iblk m c 0 t)) (View.ld (iblk m c 1 t) (Rect.unit (s := S1024x3584) ![0, 2560] ![1024, 512] inb)) (ix2 r l)
      = S m c (bat t) 2560 (t.val % 8 * 512 + r.val) l.val := by
  unfold S sec
  rw [dif_pos ⟨by omega, by omega⟩]
  unfold_payloads
  pointwise
  simp only [iblk0_apply, iblk1_apply]
theorem secU (c : Dev nD) (t : Fin cfg0.N) (inb) (r l : Fin 512) :
    k0_pay174 (k0_pay5 (iblk m c 0 t)) (View.ld (iblk m c 1 t) (Rect.unit (s := S1024x3584) ![0, 3072] ![1024, 512] inb)) (ix2 r l)
      = S m c (bat t) 3072 (t.val % 8 * 512 + r.val) l.val := by
  unfold S sec
  rw [dif_pos ⟨by omega, by omega⟩]
  unfold_payloads
  pointwise
  simp only [iblk0_apply, iblk1_apply]

/-- A state before a tile, eight steps on. -/
theorem state8 (lb : ℕ → EReal) (F I : ℕ → ℕ → EReal) (n h : ℕ) : state lb F I (n + 8) h
    = step lb F I (n + 7) h (step lb F I (n + 6) h (step lb F I (n + 5) h (step lb F I (n + 4) h (step lb F I (n + 3) h
        (step lb F I (n + 2) h (step lb F I (n + 1) h (step lb F I (n + 0) h (state lb F I n h)))))))) := rfl

/-- A piece of the stored list, at its own rows and columns. -/
theorem piece2 {M N a b h w : ℕ} (inb) (P : (⟨2, ![h, w]⟩ : Shape).Idx → Elt Ideal .bf16)
    (L : List (View.Piece (Elt Ideal) (⟨2, ![M, N]⟩ : Shape) .bf16)) (f : ℕ → ℕ → EReal)
    (h1 : ∀ (r : Fin h) (q : Fin w), (P (ix2 r q) : EReal) = f (a + r.val) (b + q.val))
    (h2 : ∀ p ∈ L, ∀ x : p.1.shape.Idx, p.2 x = f (p.1.emb x 0).val (p.1.emb x 1).val) :
    ∀ p ∈ (⟨Rect.unit (s := ⟨2, ![M, N]⟩) ![a, b] ![h, w] inb, P⟩ : View.Piece (Elt Ideal) (⟨2, ![M, N]⟩ : Shape) .bf16) :: L,
      ∀ x : p.1.shape.Idx, p.2 x = f (p.1.emb x 0).val (p.1.emb x 1).val := by
  intro p hp x
  rcases List.mem_cons.mp hp with rfl | hp
  · have := h1 (x 0) (x 1)
    rw [ix2_eta] at this
    refine this.trans ?_
    simp [Rect.emb_apply]
  · exact h2 p hp x

/-- The same for the state's list, whose leading size is one. -/
theorem piece3 {M N K a h w : ℕ} (inb) (P : (⟨3, ![1, h, w]⟩ : Shape).Idx → Elt Ideal .f32)
    (L : List (View.Piece (Elt Ideal) (⟨3, ![M, N, K]⟩ : Shape) .f32)) (f : ℕ → ℕ → ℕ → EReal)
    (h1 : ∀ (r : Fin h) (q : Fin w), (P (ix3 0 r q) : EReal) = f a r.val q.val)
    (h2 : ∀ p ∈ L, ∀ x : p.1.shape.Idx, p.2 x = f (p.1.emb x 0).val (p.1.emb x 1).val (p.1.emb x 2).val) :
    ∀ p ∈ (⟨Rect.unit (s := ⟨3, ![M, N, K]⟩) ![a, 0, 0] ![1, h, w] inb, P⟩ : View.Piece (Elt Ideal) (⟨3, ![M, N, K]⟩ : Shape) .f32) :: L,
      ∀ x : p.1.shape.Idx, p.2 x = f (p.1.emb x 0).val (p.1.emb x 1).val (p.1.emb x 2).val := by
  intro p hp x
  rcases List.mem_cons.mp hp with rfl | hp
  · have := h1 (x 1) (x 2)
    have hx : (x 0).val = 0 := by have := (x 0).isLt; change (x 0).val < 1 at this; omega
    have e : (ix3 0 (x 1) (x 2) : (⟨3, ![1, h, w]⟩ : Shape).Idx) = x := by
      funext i; fin_cases i
      · exact Fin.ext hx.symm
      · rfl
      · rfl
    rw [e] at this
    refine this.trans ?_
    simp [Rect.emb_apply, hx]
  · exact h2 p hp x

/-- The state's four pieces hold every index. -/
theorem cover3 (P0 P1 P2 P3 : S1x128x128.Idx → Elt Ideal .f32) (y : S4x128x128.Idx) :
    ∃ p ∈ ([⟨Rect.unit ![3, 0, 0] ![1, 128, 128] inb_S4x128x128_S1x128x128_3_0_0, P3⟩,
      ⟨Rect.unit ![2, 0, 0] ![1, 128, 128] inb_S4x128x128_S1x128x128_2_0_0, P2⟩,
      ⟨Rect.unit ![1, 0, 0] ![1, 128, 128] inb_S4x128x128_S1x128x128_1_0_0, P1⟩,
      ⟨Rect.unit ![0, 0, 0] ![1, 128, 128] inb_S4x128x128_S1x128x128_0_0_0, P0⟩] : List (View.Piece (Elt Ideal) S4x128x128 .f32)),
      y ∈ p.1.set :=
  View.cover_of_tiled_head _ _ _ rfl y

set_option pp.maxSteps 20000 in
/-- A tile takes the state eight steps on: from what the tile before left, or from zero at a batch's first tile. -/
theorem state_step (c : Dev nD) (t : Fin cfg0.N)
    (hp : ¬t.val % 8 = 0 → ∀ (h : Fin 4) (v k : Fin 128), (outsAt0 m c (t.val - 1) (Nat.lt_of_le_of_lt (Nat.sub_le _ _) t.isLt)).2.1 (ix3 h v k)
      = state (low m c) (S m c (bat t) 512) (S m c (bat t) 1024) (8 * (t.val % 8)) h.val v.val k.val)
    (h : Fin 4) (v k : Fin 128) : (outsAt0 m c t.val t.isLt).2.1 (ix3 h v k)
      = state (low m c) (S m c (bat t) 512) (S m c (bat t) 1024) (8 * (t.val % 8) + 8) h.val v.val k.val := by
  have hK : ∀ (C : Fin 8) (s : Fin 64) (l : Fin 512), Kall (k0_pay6 (iblk m c 2 t))
        (k0_pay9 (iblk m c 0 t) (View.ld (iblk m c 1 t) (Rect.unit (s := S1024x3584) ![0, 512] ![1024, 512] inb_S1024x3584_S1024x512_0_512))) C (ix2 s l)
      = key (low m c) (S m c (bat t) 512) ((8 * (t.val % 8) + C.val) * 64 + s.val) l.val := fun C s l => by
    rw [Kall_apply, rows_apply, secF, low_apply, show t.val % 8 * 512 + (64 * C.val + s.val) = (8 * (t.val % 8) + C.val) * 64 + s.val by omega]
    rfl
  have hB : ∀ (C : Fin 8) (s : Fin 64) (l : Fin 512), Ball (k0_pay6 (iblk m c 2 t))
        (k0_pay9 (iblk m c 0 t) (View.ld (iblk m c 1 t) (Rect.unit (s := S1024x3584) ![0, 512] ![1024, 512] inb_S1024x3584_S1024x512_0_512))) C (ix2 s l)
      = cum (low m c) (S m c (bat t) 512) (8 * (t.val % 8) + C.val) s.val l.val := fun C s l => by
    rw [Ball_apply _ (fun l => by rw [low_apply]; exact lower_ne_top _ _)]
    unfold cum rate
    refine Finset.sum_congr rfl fun x _ => ?_
    rw [rows_apply, secF, low_apply, show t.val % 8 * 512 + (64 * C.val + x.val) = (8 * (t.val % 8) + C.val) * 64 + x.val by omega]
  have hI : ∀ (C : Fin 8) (s : Fin 64) (l : Fin 512), rows
        (k0_pay42 (k0_pay5 (iblk m c 0 t)) (View.ld (iblk m c 1 t) (Rect.unit (s := S1024x3584) ![0, 1024] ![1024, 512] inb_S1024x3584_S1024x512_0_1024))) C (ix2 s l)
      = S m c (bat t) 1024 ((8 * (t.val % 8) + C.val) * 64 + s.val) l.val := fun C s l => by
    rw [rows_apply, secI, show t.val % 8 * 512 + (64 * C.val + s.val) = (8 * (t.val % 8) + C.val) * 64 + s.val by omega]
  by_cases h0 : t.val % 8 = 0
  on_goal 1 =>
    rw [outsAt0_A m c t h0]
    have hp : ∀ (h : Fin 4) (v k : Fin 128), (k0_pay2 (F := Ideal) : Vec Ideal S4x128x128 .f32) (ix3 h v k)
      = state (low m c) (S m c (bat t) 512) (S m c (bat t) 1024) (8 * (t.val % 8)) h.val v.val k.val := by
      intro h v k
      rw [h0]
      unfold_payloads
      pointwise
      rfl
    frame_open
    simp (disch := decide) only [↓ View.readCov_skip, ↓ View.readCov_cons_toLoadRect, ↓ View.readCov_fill]
    frame_out
    generalize k0_pay2 (F := Ideal) = st at hp ⊢
  on_goal 2 =>
    rw [outsAt0_B m c t h0]
    replace hp := hp h0
    generalize (outsAt0 m c (t.val - 1) _).2.1 = st at hp ⊢
    frame_open
    simp (disch := decide) only [↓ View.readCov_skip, ↓ View.readCov_cons_toLoadRect, ↓ View.readCov_fill]
    frame_out
    simp only [read_unread_whole]
  all_goals
    simp (disch := decide) only [load_in]
    simp only [Nat.reduceSub]
    simp only [r0, r1, r2, r3, r4, r5, r6, r7]
    simp only [b0, b1, b2, b3, b4, b5, b6, b7, k0, k1, k2, k3, k4, k5, k6, k7]
    generalize Kall (k0_pay6 (iblk m c 2 t)) _ = K at hK ⊢
    generalize Ball (k0_pay6 (iblk m c 2 t)) _ = B at hB ⊢
    generalize rows (k0_pay42 (k0_pay5 (iblk m c 0 t)) _) = V at hI ⊢
  on_goal 1 =>
    refine (View.canon_append_of_pieces (fun y : S4x128x128.Idx => state (low m c) (S m c (bat t) 512) (S m c (bat t) 1024) (8 * (t.val % 8) + 8) (y 0).val (y 1).val (y 2).val) [_] [_, _, _, _] ?_ _ (cover3 _ _ _ _ _))
  on_goal 2 =>
    refine (View.canon_apply_of_pieces (fun y : S4x128x128.Idx => state (low m c) (S m c (bat t) 512) (S m c (bat t) 1024) (8 * (t.val % 8) + 8) (y 0).val (y 1).val (y 2).val) _ ?_ _ (cover3 _ _ _ _ _))
  all_goals
    refine piece3 _ _ _ (state (low m c) (S m c (bat t) 512) (S m c (bat t) 1024) (8 * (t.val % 8) + 8)) (fun v k => ?_) (piece3 _ _ _ _ (fun v k => ?_) (piece3 _ _ _ _ (fun v k => ?_) (piece3 _ _ _ _ (fun v k => ?_) (fun _ h => absurd h List.not_mem_nil))))
  all_goals
    rw [state8]
    unfold_payloads
    pointwise
    simp only [hp, hB, hK, hI]
    simp only [step, Nat.zero_mul, Nat.zero_add]
    rfl

end Cert.MixTile
end
-- ==== Proof.MixOut.lean ====
module

public import proofs.«01_k».proof.Proof.MixTile
public import Idealize.ShloMosaic.Lib.WritesUnit

@[expose] public section

set_option maxRecDepth 16384
set_option maxHeartbeats 20000000

noncomputable section

namespace Cert.MixTile

open Idealize.ShloMosaic Idealize.ShloMosaic.TcCoe Idealize.SL.Sem
open Idealize.ShloMosaic.Pipeline (Dat)
open Cert.KernelIdeal Cert.KernelIdeal.Gen Cert.Mix

variable (m : (ℓ : Loc nD τ sig) → Buf (Elt Ideal) ℓ)

/-! ## The convolution's rows -/

/-- A load of 512 rows at row `a ≤ 8` of the buffer whose rows from 8 on were just stored. -/
theorem zld {sig : RefSig} {κ : Kind} {sp : Space} (v : View sig κ sp S520x512 .f32) (f : v.ty.Contents (Elt Ideal)) (inb) (z : Vec Ideal S512x512 .f32)
    (a : ℕ) (inb') (i l : Fin 512) :
    View.ld (View.read (Elt Ideal) v (v.writes (Elt Ideal) f [⟨Rect.unit (s := S520x512) ![8, 0] ![512, 512] inb, z⟩]))
      (Rect.unit (s := S520x512) ![a, 0] ![512, 512] inb') (ix2 i l)
    = if h : a + i.val < 8 then v.read (Elt Ideal) f (ix2 ⟨a + i.val, by omega⟩ l)
      else z (ix2 ⟨a + i.val - 8, by have := inb' 0; simp at this; omega⟩ l) := by
  have hl := l.isLt
  have ha : a ≤ 8 := by have := inb' 0; simp at this; omega
  show View.read (Elt Ideal) v (v.writes (Elt Ideal) f _) ((Rect.unit (s := S520x512) ![a, 0] ![512, 512] inb').emb (ix2 i l)) = _
  have e : (Rect.unit (s := S520x512) ![a, 0] ![512, 512] inb').emb (ix2 i l) = (ix2 ⟨a + i.val, by omega⟩ l : S520x512.Idx) := by
    funext k; apply Fin.ext; fin_cases k <;> simp [Rect.emb_apply]
  rw [e]
  split
  · rename_i h
    exact View.read_writes_cons_unit_of_not_mem v f inb z [] _ rfl 0 (Or.inl h)
  · rename_i h
    refine View.read_writes_cons_unit_of_mem v f inb z [] _ (ix2 ⟨a + i.val - 8, by omega⟩ l) rfl fun k => ?_
    fin_cases k
    · show a + i.val = 8 + (a + i.val - 8); omega
    · show l.val = 0 + l.val; omega

/-- The same where the buffer's first eight rows were stored before. -/
theorem zcov {sig : RefSig} {κ : Kind} {sp : Space} (v : View sig κ sp S520x512 .f32) (inb) (z : Vec Ideal S512x512 .f32)
    (inb2) (p : Vec Ideal S8x512 .f32)
    (a : ℕ) (inb') (i l : Fin 512) :
    v.readCov (Val := Elt Ideal) [⟨Rect.unit (s := S520x512) ![8, 0] ![512, 512] inb, z⟩, ⟨Rect.unit (s := S520x512) ![0, 0] ![8, 512] inb2, p⟩]
      (Rect.unit (s := S520x512) ![a, 0] ![512, 512] inb').toLoadRect (ix2 i l)
    = if h : a + i.val < 8 then p (ix2 ⟨a + i.val, by omega⟩ l)
      else z (ix2 ⟨a + i.val - 8, by have := inb' 0; simp at this; omega⟩ l) := by
  have hl := l.isLt
  have ha : a ≤ 8 := by have := inb' 0; simp at this; omega
  rw [View.readCov_eq_canon']
  show View.canon _ ((Rect.unit (s := S520x512) ![a, 0] ![512, 512] inb').emb (ix2 i l)) = _
  have e : (Rect.unit (s := S520x512) ![a, 0] ![512, 512] inb').emb (ix2 i l) = (ix2 ⟨a + i.val, by omega⟩ l : S520x512.Idx) := by
    funext k; apply Fin.ext; fin_cases k <;> simp [Rect.emb_apply]
  rw [e]
  split
  · rename_i h
    rw [View.canon_cons_of_not_mem _ _ (by
      rw [Rect.mem_set_unit]; intro hm; have := (hm 0).1; change 8 ≤ a + i.val at this; omega)]
    rw [show (ix2 ⟨a + i.val, by omega⟩ l : S520x512.Idx) = (Rect.unit (s := S520x512) ![0, 0] ![8, 512] inb2).emb (ix2 ⟨a + i.val, by omega⟩ l) from by
      funext k; apply Fin.ext; fin_cases k <;> simp [Rect.emb_apply], View.canon_cons_emb]
  · rename_i h
    rw [show (ix2 ⟨a + i.val, by omega⟩ l : S520x512.Idx) = (Rect.unit (s := S520x512) ![8, 0] ![512, 512] inb).emb (ix2 ⟨a + i.val - 8, by omega⟩ l) from by
      funext k; apply Fin.ext; fin_cases k <;> simp [Rect.emb_apply]; omega, View.canon_cons_emb]

/-- A tile leaves the last eight rows of the convolution's input. -/
theorem carry (c : Dev nD) (t : Fin cfg0.N) (r : Fin 8) (l : Fin 512) :
    (outsAt0 m c t.val t.isLt).2.2 (ix2 ⟨r.val, by omega⟩ l)
      = lag (S m c (bat t) 2560) (S m c (bat t) 3072) (t.val % 8 * 512 + 506 + r.val) l.val := by
  by_cases h0 : t.val % 8 = 0
  on_goal 1 =>
    rw [outsAt0_A m c t h0]
    frame_open
    simp (disch := decide) only [↓ View.readCov_skip, ↓ View.readCov_cons_toLoadRect, ↓ View.readCov_fill]
    frame_out
  on_goal 2 =>
    rw [outsAt0_B m c t h0]
    frame_open
    simp (disch := decide) only [↓ View.readCov_skip, ↓ View.readCov_cons_toLoadRect, ↓ View.readCov_fill]
    frame_out
  all_goals
    simp (disch := decide) only [load_in]
    simp only [Nat.reduceSub]
    rw [show (ix2 ⟨r.val, by omega⟩ l : S520x512.Idx) = (Rect.unit (s := S520x512) ![0, 0] ![8, 512] inb_S520x512_S8x512_0_0).emb (ix2 r l) from by
      funext a; apply Fin.ext; fin_cases a <;> simp [Rect.emb_apply], View.canon_cons_emb]
    have hC := secC m c t inb_S1024x3584_S1024x512_0_2560
    have hU := secU m c t inb_S1024x3584_S1024x512_0_3072
    generalize k0_pay173 (k0_pay5 (iblk m c 0 t)) _ = SC at hC ⊢
    generalize k0_pay174 (k0_pay5 (iblk m c 0 t)) _ = SU at hU ⊢
    unfold lag
    rw [if_neg (by omega)]
    unfold_payloads
    pointwise
    simp only [hC, hU]
    rw [show t.val % 8 * 512 + 506 + r.val - 2 = t.val % 8 * 512 + (504 + r.val) by omega]

/-! ## The mix of a tile -/

section
variable (lb : ℕ → EReal) (F Q I : ℕ → ℕ → EReal) (gn : ℕ → EReal) (G B C U : ℕ → ℕ → EReal) (cw : ℕ → ℕ → EReal)
theorem mix_rec (j a b r q : ℕ) (ha : a % 64 = 0 ∧ a < 512 ∧ b % 128 = 0 ∧ b < 512) (hr : r < 64) (hq : q < 128) :
    mix lb F Q I gn G B C U cw (j * 512 + (a + r)) (b + q) = gated lb F Q I gn G (8 * j + a / 64) (b / 128) r q := by
  unfold mix
  rw [if_pos (by omega), show (j * 512 + (a + r)) / 64 = 8 * j + a / 64 by omega, show (j * 512 + (a + r)) % 64 = r by omega,
    show (b + q) / 128 = b / 128 by omega, show (b + q) % 128 = q by omega]
theorem mix_conv (r q : ℕ) : mix lb F Q I gn G B C U cw r (512 + q) = conv B C U cw r q := by
  unfold mix
  rw [if_neg (by omega), Nat.add_sub_cancel_left]
theorem st1 (n h : ℕ) : state lb F I (n + 1) h = step lb F I n h (state lb F I n h) := rfl
theorem st2 (n h : ℕ) : state lb F I (n + 2) h = step lb F I (n + 1) h (state lb F I (n + 1) h) := rfl
theorem st3 (n h : ℕ) : state lb F I (n + 3) h = step lb F I (n + 2) h (state lb F I (n + 2) h) := rfl
theorem st4 (n h : ℕ) : state lb F I (n + 4) h = step lb F I (n + 3) h (state lb F I (n + 3) h) := rfl
theorem st5 (n h : ℕ) : state lb F I (n + 5) h = step lb F I (n + 4) h (state lb F I (n + 4) h) := rfl
theorem st6 (n h : ℕ) : state lb F I (n + 6) h = step lb F I (n + 5) h (state lb F I (n + 5) h) := rfl
theorem st7 (n h : ℕ) : state lb F I (n + 7) h = step lb F I (n + 6) h (state lb F I (n + 6) h) := rfl
end

/-- The mix of batch `b`. -/
def M (c : Dev nD) (b : Fin 4) : ℕ → ℕ → EReal :=
  mix (low m c) (S m c b 512) (S m c b 0) (S m c b 1024)
    (fun l => if h : l < 512 then (m ((c : Thread nD τ).loc main_arg3) : Vec Ideal S1x512 .f32) (ix2 0 ⟨l, h⟩) else 0) (S m c b 1536)
    (S m c b 2048) (S m c b 2560) (S m c b 3072)
    (fun i l => if h : i < 3 ∧ l < 512 then (m ((c : Thread nD τ).loc main_arg4) : Vec Ideal S1x3x512 .f32) (ix3 0 ⟨i, h.1⟩ ⟨l, h.2⟩) else 0)

/-- The result at batch `b`, row `r`. -/
def out (c : Dev nD) (b : Fin 4) (r : Fin 4096) (i : Fin 1024) : EReal :=
  lnRow (fun i => Ideal.ofBits .f32 1066940400#32 * (m ((c : Thread nD τ).loc main_arg0) : Vec Ideal S4x4096x1024 .f32) (ix3 b r i)
      + ∑ q : Fin 1024, M m c b r.val q.val * (m ((c : Thread nD τ).loc main_arg5) : Vec Ideal S1x1024x1024 .f32) (ix3 0 q i))
    (fun i => (m ((c : Thread nD τ).loc main_arg6) : Vec Ideal S1x1024 .f32) (ix2 0 i))
    (fun i => (m ((c : Thread nD τ).loc main_arg7) : Vec Ideal S1x1024 .f32) (ix2 0 i)) i

theorem piece2' {M N a b h w : ℕ} (inb) (P : (⟨2, ![h, w]⟩ : Shape).Idx → Elt Ideal .bf16)
    (L : List (View.Piece (Elt Ideal) (⟨2, ![M, N]⟩ : Shape) .bf16)) (f : ℕ → ℕ → EReal)
    (h2 : ∀ p ∈ L, ∀ x : p.1.shape.Idx, p.2 x = f (p.1.emb x 0).val (p.1.emb x 1).val)
    (h1 : ∀ (r : Fin h) (q : Fin w), (P (ix2 r q) : EReal) = f (a + r.val) (b + q.val)) :
    ∀ p ∈ (⟨Rect.unit (s := ⟨2, ![M, N]⟩) ![a, b] ![h, w] inb, P⟩ : View.Piece (Elt Ideal) (⟨2, ![M, N]⟩ : Shape) .bf16) :: L,
      ∀ x : p.1.shape.Idx, p.2 x = f (p.1.emb x 0).val (p.1.emb x 1).val := piece2 inb P L f h1 h2

theorem mem2 {A B a b h w : ℕ} (inb) (r : Fin A) (q : Fin B) (H : a ≤ r.val ∧ r.val < a + h ∧ b ≤ q.val ∧ q.val < b + w) :
    (ix2 r q : (⟨2, ![A, B]⟩ : Shape).Idx) ∈ (Rect.unit (s := ⟨2, ![A, B]⟩) ![a, b] ![h, w] inb).set := by
  rw [Rect.mem_set_unit]
  intro k
  fin_cases k
  · exact ⟨H.1, H.2.1⟩
  · exact ⟨H.2.2.1, H.2.2.2⟩

theorem cov_here {s : Shape} {e : EltTy} (p : View.Piece (Elt Ideal) s e) (L : List (View.Piece (Elt Ideal) s e)) (y : s.Idx) (h : y ∈ p.1.set) :
    ∃ p' ∈ p :: L, y ∈ p'.1.set := ⟨p, List.mem_cons_self, h⟩

theorem cov_next {s : Shape} {e : EltTy} (p : View.Piece (Elt Ideal) s e) (L : List (View.Piece (Elt Ideal) s e)) (y : s.Idx)
    (h : ∃ p' ∈ L, y ∈ p'.1.set) : ∃ p' ∈ p :: L, y ∈ p'.1.set := by
  obtain ⟨p', hp, hy⟩ := h
  exact ⟨p', List.mem_cons_of_mem _ hp, hy⟩

/-- The causal mask's select. -/
theorem sel (c s : Fin 64) (a b : EReal) : Scalar.select (IntOp.cmpi CmpIPredicate.sge (BitVec.ofNat 32 c.val) (BitVec.ofNat 32 s.val)) a b
    = if s.val ≤ c.val then a else b := by
  rw [WordCmp.cmpi_sge_ofNat (by omega) (by omega)]
  by_cases h : s.val ≤ c.val
  · simp [h, Scalar.select]
  · simp [h, Scalar.select]

/-- One head's eight pieces hold its columns. -/
theorem cov_head {b : ℕ} (i7 i6 i5 i4 i3 i2 i1 i0) (P7 P6 P5 P4 P3 P2 P1 P0 : (⟨2, ![64, 128]⟩ : Shape).Idx → Elt Ideal .bf16)
    (L : List (View.Piece (Elt Ideal) S512x1024 .bf16)) (r : Fin 512) (q : Fin 1024)
    (H : (b ≤ q.val ∧ q.val < b + 128) ∨ ∃ p ∈ L, (ix2 r q : S512x1024.Idx) ∈ p.1.set) :
    ∃ p ∈ ([⟨Rect.unit (s := S512x1024) ![448, b] ![64, 128] i7, P7⟩, ⟨Rect.unit (s := S512x1024) ![384, b] ![64, 128] i6, P6⟩,
      ⟨Rect.unit (s := S512x1024) ![320, b] ![64, 128] i5, P5⟩, ⟨Rect.unit (s := S512x1024) ![256, b] ![64, 128] i4, P4⟩,
      ⟨Rect.unit (s := S512x1024) ![192, b] ![64, 128] i3, P3⟩, ⟨Rect.unit (s := S512x1024) ![128, b] ![64, 128] i2, P2⟩,
      ⟨Rect.unit (s := S512x1024) ![64, b] ![64, 128] i1, P1⟩, ⟨Rect.unit (s := S512x1024) ![0, b] ![64, 128] i0, P0⟩] ++ L
        : List (View.Piece (Elt Ideal) S512x1024 .bf16)), (ix2 r q : S512x1024.Idx) ∈ p.1.set := by
  have hr := r.isLt
  rcases H with H | ⟨p, hp, hy⟩
  · by_cases h7 : 448 ≤ r.val
    · exact cov_here _ _ _ (mem2 i7 _ _ (by omega))
    refine cov_next _ _ _ ?_
    by_cases h6 : 384 ≤ r.val
    · exact cov_here _ _ _ (mem2 i6 _ _ (by omega))
    refine cov_next _ _ _ ?_
    by_cases h5 : 320 ≤ r.val
    · exact cov_here _ _ _ (mem2 i5 _ _ (by omega))
    refine cov_next _ _ _ ?_
    by_cases h4 : 256 ≤ r.val
    · exact cov_here _ _ _ (mem2 i4 _ _ (by omega))
    refine cov_next _ _ _ ?_
    by_cases h3 : 192 ≤ r.val
    · exact cov_here _ _ _ (mem2 i3 _ _ (by omega))
    refine cov_next _ _ _ ?_
    by_cases h2 : 128 ≤ r.val
    · exact cov_here _ _ _ (mem2 i2 _ _ (by omega))
    refine cov_next _ _ _ ?_
    by_cases h1 : 64 ≤ r.val
    · exact cov_here _ _ _ (mem2 i1 _ _ (by omega))
    refine cov_next _ _ _ ?_
    exact cov_here _ _ _ (mem2 i0 _ _ (by omega))
  · exact ⟨p, List.mem_append_right _ hp, hy⟩

/-- A tile's rows of the result. -/
theorem out_apply (c : Dev nD) (t : Fin cfg0.N)
    (hp : ¬t.val % 8 = 0 → ∀ (h : Fin 4) (v k : Fin 128), (outsAt0 m c (t.val - 1) (Nat.lt_of_le_of_lt (Nat.sub_le _ _) t.isLt)).2.1 (ix3 h v k)
      = state (low m c) (S m c (bat t) 512) (S m c (bat t) 1024) (8 * (t.val % 8)) h.val v.val k.val)
    (hz : ¬t.val % 8 = 0 → ∀ (r : Fin 520) (l : Fin 512), 6 ≤ r.val → r.val < 8 →
      (outsAt0 m c (t.val - 1) (Nat.lt_of_le_of_lt (Nat.sub_le _ _) t.isLt)).2.2 (ix2 r l)
        = lag (S m c (bat t) 2560) (S m c (bat t) 3072) (t.val % 8 * 512 + (r.val - 6)) l.val)
    (r : Fin 512) (i : Fin 1024) : (outsAt0 m c t.val t.isLt).1 (ix3 0 r i) = out m c (bat t) ⟨t.val % 8 * 512 + r.val, by omega⟩ i := by
  have hK : ∀ (C : Fin 8) (s : Fin 64) (l : Fin 512), Kall (k0_pay6 (iblk m c 2 t))
        (k0_pay9 (iblk m c 0 t) (View.ld (iblk m c 1 t) (Rect.unit (s := S1024x3584) ![0, 512] ![1024, 512] inb_S1024x3584_S1024x512_0_512))) C (ix2 s l)
      = key (low m c) (S m c (bat t) 512) ((8 * (t.val % 8) + C.val) * 64 + s.val) l.val := fun C s l => by
    rw [Kall_apply, rows_apply, secF, low_apply, show t.val % 8 * 512 + (64 * C.val + s.val) = (8 * (t.val % 8) + C.val) * 64 + s.val by omega]
    rfl
  have hB : ∀ (C : Fin 8) (s : Fin 64) (l : Fin 512), Ball (k0_pay6 (iblk m c 2 t))
        (k0_pay9 (iblk m c 0 t) (View.ld (iblk m c 1 t) (Rect.unit (s := S1024x3584) ![0, 512] ![1024, 512] inb_S1024x3584_S1024x512_0_512))) C (ix2 s l)
      = cum (low m c) (S m c (bat t) 512) (8 * (t.val % 8) + C.val) s.val l.val := fun C s l => by
    rw [Ball_apply _ (fun l => by rw [low_apply]; exact lower_ne_top _ _)]
    unfold cum rate
    refine Finset.sum_congr rfl fun x _ => ?_
    rw [rows_apply, secF, low_apply, show t.val % 8 * 512 + (64 * C.val + x.val) = (8 * (t.val % 8) + C.val) * 64 + x.val by omega]
  have hI : ∀ (C : Fin 8) (s : Fin 64) (l : Fin 512), rows
        (k0_pay42 (k0_pay5 (iblk m c 0 t)) (View.ld (iblk m c 1 t) (Rect.unit (s := S1024x3584) ![0, 1024] ![1024, 512] inb_S1024x3584_S1024x512_0_1024))) C (ix2 s l)
      = S m c (bat t) 1024 ((8 * (t.val % 8) + C.val) * 64 + s.val) l.val := fun C s l => by
    rw [rows_apply, secI, show t.val % 8 * 512 + (64 * C.val + s.val) = (8 * (t.val % 8) + C.val) * 64 + s.val by omega]
  have hQ : ∀ (C : Fin 8) (s : Fin 64) (l : Fin 512), rows
        (k0_pay11 (k0_pay10 (iblk m c 0 t) (View.ld (iblk m c 1 t) (Rect.unit (s := S1024x3584) ![0, 0] ![1024, 512] inb_S1024x3584_S1024x512_0_0)))) C (ix2 s l)
      = S m c (bat t) 0 ((8 * (t.val % 8) + C.val) * 64 + s.val) l.val := fun C s l => by
    rw [rows_apply, secQ, show t.val % 8 * 512 + (64 * C.val + s.val) = (8 * (t.val % 8) + C.val) * 64 + s.val by omega]
  have hG : ∀ (C : Fin 8) (h : Fin 4) (s : Fin 64) (l : Fin 128), rowsH
        (k0_pay171 (k0_pay5 (iblk m c 0 t)) (View.ld (iblk m c 1 t) (Rect.unit (s := S1024x3584) ![0, 1536] ![1024, 512] inb_S1024x3584_S1024x512_0_1536))) C h (ix2 s l)
      = S m c (bat t) 1536 ((8 * (t.val % 8) + C.val) * 64 + s.val) (h.val * 128 + l.val) := fun C h s l => by
    rw [rowsH_apply, secG, show t.val % 8 * 512 + (64 * C.val + s.val) = (8 * (t.val % 8) + C.val) * 64 + s.val by omega]
    simp only [Nat.mul_comm 128]
  have hSB := secB m c t inb_S1024x3584_S1024x512_0_2048
  have hSC := secC m c t inb_S1024x3584_S1024x512_0_2560
  have hSU := secU m c t inb_S1024x3584_S1024x512_0_3072
  by_cases h0 : t.val % 8 = 0
  on_goal 1 =>
    rw [outsAt0_A m c t h0]
    have hp : ∀ (h : Fin 4) (v k : Fin 128), (k0_pay2 (F := Ideal) : Vec Ideal S4x128x128 .f32) (ix3 h v k)
      = state (low m c) (S m c (bat t) 512) (S m c (bat t) 1024) (8 * (t.val % 8)) h.val v.val k.val := by
      intro h v k
      rw [h0]
      unfold_payloads
      pointwise
      rfl
    have hz : ∀ (r : Fin 8) (l : Fin 512), 6 ≤ r.val → (k0_pay3 (F := Ideal) : Vec Ideal S8x512 .f32) (ix2 r l)
        = lag (S m c (bat t) 2560) (S m c (bat t) 3072) (t.val % 8 * 512 + (r.val - 6)) l.val := by
      intro r l hr
      unfold lag
      rw [if_pos (by omega)]
      unfold_payloads
      pointwise
    frame_open
    simp (disch := decide) only [↓ View.readCov_skip, ↓ View.readCov_cons_toLoadRect, ↓ View.readCov_fill]
    frame_out
    generalize k0_pay2 (F := Ideal) = st at hp ⊢
    generalize k0_pay3 (F := Ideal) = zt at hz ⊢
  on_goal 2 =>
    rw [outsAt0_B m c t h0]
    replace hp := hp h0
    replace hz := hz h0
    generalize (outsAt0 m c (t.val - 1) _).2.1 = st at hp ⊢
    generalize (outsAt0 m c (t.val - 1) _).2.2 = zt at hz ⊢
    frame_open
    simp (disch := decide) only [↓ View.readCov_skip, ↓ View.readCov_cons_toLoadRect, ↓ View.readCov_fill]
    frame_out
    simp only [read_unread_whole]
  all_goals
    simp (disch := decide) only [load_in]
    simp only [Nat.reduceSub]
    simp only [r0, r1, r2, r3, r4, r5, r6, r7]
    simp only [b0, b1, b2, b3, b4, b5, b6, b7, k0, k1, k2, k3, k4, k5, k6, k7]
    simp only [g00, g01, g02, g03, g10, g11, g12, g13, g20, g21, g22, g23, g30, g31, g32, g33, g40, g41, g42, g43,
      g50, g51, g52, g53, g60, g61, g62, g63, g70, g71, g72, g73]
    generalize Kall (k0_pay6 (iblk m c 2 t)) _ = K at hK ⊢
    generalize Ball (k0_pay6 (iblk m c 2 t)) _ = B at hB ⊢
    generalize rows (k0_pay42 (k0_pay5 (iblk m c 0 t)) _) = V at hI ⊢
    generalize rows (k0_pay11 (F := Ideal) _) = Q at hQ ⊢
    generalize rowsH (k0_pay171 (k0_pay5 (iblk m c 0 t)) _) = G at hG ⊢
    generalize k0_pay172 (k0_pay5 (iblk m c 0 t)) _ = SB at hSB ⊢
    generalize k0_pay173 (k0_pay5 (iblk m c 0 t)) _ = SC at hSC ⊢
    generalize k0_pay174 (k0_pay5 (iblk m c 0 t)) _ = SU at hSU ⊢
    have hz8 : ∀ i l, (k0_pay175 (F := Ideal) SC SU : Vec Ideal S512x512 .f32) (ix2 i l)
        = lag (S m c (bat t) 2560) (S m c (bat t) 3072) (t.val % 8 * 512 + i.val + 2) l.val := by
      intro i l
      unfold lag
      rw [if_neg (by omega), Nat.add_sub_cancel, ← hSC, ← hSU]
      unfold_payloads
      pointwise
    generalize k0_pay175 (F := Ideal) SC SU = z8 at hz8 ⊢
  on_goal 1 =>
    generalize h6 : (View.whole cc0_scratch2).readCov (Val := Elt Ideal) _ (Rect.unit (s := S520x512) ![6, 0] ![512, 512] _).toLoadRect = z6
    generalize h7 : (View.whole cc0_scratch2).readCov (Val := Elt Ideal) _ (Rect.unit (s := S520x512) ![7, 0] ![512, 512] _).toLoadRect = z7
  on_goal 2 =>
    generalize h6 : View.ld _ (Rect.unit (s := S520x512) ![6, 0] ![512, 512] _) = z6
    generalize h7 : View.ld _ (Rect.unit (s := S520x512) ![7, 0] ![512, 512] _) = z7
  all_goals
    have hz6 : ∀ i l, z6 (ix2 i l) = lag (S m c (bat t) 2560) (S m c (bat t) 3072) (t.val % 8 * 512 + i.val) l.val := by
      intro i l
      rw [← h6]
      first | rw [zcov] | rw [zld]
      split
      · try simp only [read_unread_whole]
        first
          | rw [hz _ _ (by simp) (by assumption)]
          | rw [hz _ _ (by simp)]
        congr 1; simp
      · rw [hz8]; congr 1; simp; omega
    have hz7 : ∀ i l, z7 (ix2 i l) = lag (S m c (bat t) 2560) (S m c (bat t) 3072) (t.val % 8 * 512 + i.val + 1) l.val := by
      intro i l
      rw [← h7]
      first | rw [zcov] | rw [zld]
      split
      · try simp only [read_unread_whole]
        first
          | rw [hz _ _ (by simp; omega) (by assumption)]
          | rw [hz _ _ (by simp; omega)]
        congr 1; simp; omega
      · rw [hz8]; congr 1; simp; omega
    clear h6 h7
    generalize hM : (View.whole cc0_scratch3).readCov (Val := Elt Ideal) _ _ = MIX
    have hMIX : ∀ (r : Fin 512) (q : Fin 1024), (MIX (ix2 r q) : EReal) = M m c (bat t) (t.val % 8 * 512 + r.val) q.val := by
      intro r q
      have e : (Rect.unit (s := S512x1024) ![0, 0] ![512, 1024] inb_S512x1024_S512x1024_0_0).emb (ix2 r q) = (ix2 r q : S512x1024.Idx) := by
        funext k; apply Fin.ext; fin_cases k <;> simp [Rect.emb_apply]
      rw [← hM, View.readCov_eq_canon']
      show View.canon _ ((Rect.unit (s := S512x1024) ![0, 0] ![512, 1024] inb_S512x1024_S512x1024_0_0).emb (ix2 r q)) = _
      rw [e]
      refine View.canon_apply_of_pieces (Val := Elt Ideal) (e := .bf16) (fun y : S512x1024.Idx => M m c (bat t) (t.val % 8 * 512 + (y 0).val) (y 1).val) _ ?_ _ ?_
      on_goal 2 =>
        refine cov_head _ _ _ _ _ _ _ _ _ _ _ _ _ _ _ _ _ r q ?_
        by_cases h3 : 384 ≤ q.val ∧ q.val < 512
        · exact Or.inl (by omega)
        refine Or.inr (cov_head _ _ _ _ _ _ _ _ _ _ _ _ _ _ _ _ _ r q ?_)
        by_cases h2 : 256 ≤ q.val ∧ q.val < 384
        · exact Or.inl (by omega)
        refine Or.inr (cov_head _ _ _ _ _ _ _ _ _ _ _ _ _ _ _ _ _ r q ?_)
        by_cases h1 : 128 ≤ q.val ∧ q.val < 256
        · exact Or.inl (by omega)
        refine Or.inr (cov_head _ _ _ _ _ _ _ _ _ _ _ _ _ _ _ _ _ r q ?_)
        by_cases h0' : q.val < 128
        · exact Or.inl (by omega)
        exact Or.inr (cov_here _ _ _ (mem2 inb_S512x1024_S512x512_0_512 _ _ (by omega)))
      clear hM e
      repeat refine piece2' _ _ _ (fun R q => M m c (bat t) (t.val % 8 * 512 + R) q) ?_ (fun ρ e => ?_)
      on_goal 1 => exact fun _ h => absurd h List.not_mem_nil
      all_goals
        first
        | refine Eq.trans ?_ (Eq.symm (mix_rec _ _ _ _ _ _ _ _ _ _ _ _ _ _ _ (by decide) ρ.isLt e.isLt))
          simp only [Nat.reduceDiv]
          unfold gated rec score
          simp only [Nat.add_zero, st1, st2, st3, st4, st5, st6, st7]
          unfold_payloads
          pointwise
          simp only [hp, hB, hK, hI, hQ, hG, iblk3_apply]
          simp (disch := omega) only [sel, ite_mul, zero_mul, Nat.zero_mul, Nat.zero_add, Nat.reduceMul, step, dif_pos,
            Fin.coe_ofNat_eq_mod, Nat.reduceMod, Nat.add_zero, Fin.val_zero, Fin.val_one]
          try rfl
        | refine Eq.trans ?_ (Eq.symm (mix_conv _ _ _ _ _ _ _ _ _ _ _ _))
          unfold conv
          unfold_payloads
          pointwise
          simp (disch := omega) only [hSB, hz6, hz7, hz8, iblk4_apply, dif_pos]
    clear hM
    unfold out
    unfold_payloads
    pointwise
    simp only [hMIX, iblk0_apply, iblk5_apply, iblk6_apply, iblk7_apply]
    unfold lnRow mean
    rfl

end Cert.MixTile
end
-- ==== Proof.MixRun.lean ====
module

public import proofs.«01_k».proof.Proof.MixOut

@[expose] public section

set_option maxRecDepth 16384
set_option maxHeartbeats 4000000

noncomputable section

namespace Cert.MixTile

open Idealize.ShloMosaic Idealize.ShloMosaic.TcCoe Idealize.SL.Sem
open Idealize.ShloMosaic.Pipeline (Dat)
open Cert.KernelIdeal Cert.KernelIdeal.Gen Cert.Mix

variable (m : (ℓ : Loc nD τ sig) → Buf (Elt Ideal) ℓ) (ρ : Dev nD → PrngReg)

/-- The state after every tile: by induction on the tiles, a batch's first tile starting from zero. -/
theorem state_all (c : Dev nD) : ∀ (n : ℕ) (hn : n < cfg0.N) (h : Fin 4) (v k : Fin 128), (outsAt0 m c n hn).2.1 (ix3 h v k)
    = state (low m c) (S m c (bat ⟨n, hn⟩) 512) (S m c (bat ⟨n, hn⟩) 1024) (8 * (n % 8) + 8) h.val v.val k.val := by
  intro n
  induction n with
  | zero => intro hn h v k; exact state_step m c ⟨0, hn⟩ (fun h0 => absurd rfl h0) h v k
  | succ n ih =>
    intro hn h v k
    refine state_step m c ⟨n + 1, hn⟩ (fun h0 h v k => ?_) h v k
    change ¬ (n + 1) % 8 = 0 at h0
    refine (ih (by omega) h v k).trans ?_
    have e : bat ⟨n, by omega⟩ = bat ⟨n + 1, hn⟩ := Fin.ext (by show n / 8 = (n + 1) / 8; omega)
    rw [e, show 8 * (n % 8) + 8 = 8 * ((n + 1) % 8) by omega]

/-- Every tile's rows of the result. -/
theorem tile (c : Dev nD) (t : Fin cfg0.N) (r : Fin 512) (i : Fin 1024) :
    (outsAt0 m c t.val t.isLt).1 (ix3 0 r i) = out m c (bat t) ⟨t.val % 8 * 512 + r.val, by omega⟩ i := by
  refine out_apply m c t (fun h0 h v k => ?_) (fun h0 r l h6 h8 => ?_) r i
  · have ht : t.val - 1 < cfg0.N := Nat.lt_of_le_of_lt (Nat.sub_le _ _) t.isLt
    refine (state_all m c (t.val - 1) ht h v k).trans ?_
    have e : bat ⟨t.val - 1, ht⟩ = bat t := Fin.ext (by show (t.val - 1) / 8 = t.val / 8; omega)
    rw [e, show 8 * ((t.val - 1) % 8) + 8 = 8 * (t.val % 8) by omega]
  · have ht : t.val - 1 < cfg0.N := Nat.lt_of_le_of_lt (Nat.sub_le _ _) t.isLt
    have hc := carry m c ⟨t.val - 1, ht⟩ ⟨r.val, h8⟩ l
    have e : bat ⟨t.val - 1, ht⟩ = bat t := Fin.ext (by show (t.val - 1) / 8 = t.val / 8; omega)
    rw [e] at hc
    refine Eq.trans ?_ (hc.trans ?_)
    · rfl
    · show lag _ _ ((t.val - 1) % 8 * 512 + 506 + r.val) _ = _
      rw [show (t.val - 1) % 8 * 512 + 506 + r.val = t.val % 8 * 512 + (r.val - 6) by omega]

/-- The kernel's result array. -/
def G (c : Dev nD) : Buf (Elt Ideal) ((c : Thread nD τ).loc main_v5) :=
  show Vec Ideal S4x4096x1024 .f32 from fun y => out m c (y 0) (y 1) (y 2)

theorem idx8 : ∀ t : Fin cfg0.N, win0_8.index t = ![t.val / 8, t.val % 8, 0] :=
  (by decide +kernel : ∀ t : Fin grid0.N, win0_8.index t = ![t.val / 8, t.val % 8, 0])

/-- The result array after the run. -/
theorem arr8 (c : Dev nD) : (dats m 0 c).arrAt 8 cfg0.N = G m c := by
  refine (dats m 0 c).arrAt_eq_of_covers 8 _ (by decide +kernel) fun t hf y => ?_
  blk_simp
  rw [after0_8]
  obtain ⟨r, l, rfl⟩ : ∃ (r : Fin 512) (l : Fin 1024), y = (ix3 0 r l : S1x512x1024.Idx) :=
    ⟨y 1, y 2, funext fun a => by
      fin_cases a
      · exact Fin.ext (by have := (y 0).isLt; change (y 0).val < 1 at this; show (y 0).val = 0; omega)
      · rfl
      · rfl⟩
  have e : (win0_8.blk t).view.emb (ix3 0 r l) = (ix3 (bat t) ⟨t.val % 8 * 512 + r.val, by omega⟩ l : S4x4096x1024.Idx) := by
    blk_ext [bat, idx8 t]
  refine (tile m c t r l).trans ?_
  erw [e]
  rfl

/-- The run of the kernel: its result array is `G`, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (arr8 m c), (h c).2⟩) (Cert.KernelIdeal.Value.run_blocks m ρ)

end Cert.MixTile
end
-- ==== Proof.MixRefRead.lean ====
module

public import proofs.«01_k».proof.Proof.Gen.ReferenceIdeal.Run
public import proofs.«01_k».proof.Proof.MixSpec
public import Idealize.ShloMosaic.Lib.Pointwise
public import Idealize.ShloMosaic.Lib.Tactic.CleanTypes
public import Idealize.ShloMosaic.Lib.StableHlo.ReadAt
public import Idealize.ShloMosaic.Lib.WordCmp
public import Idealize.ShloMosaic.Lib.Claim

@[expose] public section

set_option maxRecDepth 16384
set_option maxHeartbeats 2000000

noncomputable section

/-! # The reference before its loop, at an index -/

namespace Cert.MixRef
open Idealize.ShloMosaic Idealize.ShloMosaic.TcCoe Idealize.SL.Sem Idealize.ShloMosaic.StableHlo
open Cert.ReferenceIdeal Cert.ReferenceIdeal.Value Cert.Mix

/-! ## The two running sums -/

/-- A fold that adds numbers is the start plus their sum. -/
theorem foldl_sum {N : ℕ} (f : Fin N → EReal) (v : EReal) : (List.finRange N).foldl (fun r n => r + f n) v = v + ∑ n, f n := by
  rw [← List.sum_ofFn, List.ofFn_eq_map]
  generalize List.finRange N = l
  induction l generalizing v with
  | nil => simp
  | cons a l ih => simp [ih, add_assoc]

/-- The running sum as a sum over the window's places. -/
theorem win_sum {s t : Shape} (window strides lo hi : Fin s.rank → Nat) (x : FVec Ideal s .f32) (v : Vec Ideal S_ .f32)
    (hv : v (Shape.Idx.first Gen.h_S_) = (0 : EReal)) (h : s.ReduceWindows window strides lo hi t) (j : t.Idx) :
    Host.reduceWindowAdd (φ := .f32) window strides lo hi x v h Gen.h_S_ j
      = ∑ w : (⟨s.rank, window⟩ : Shape).Idx, if hin : ∀ a, lo a ≤ (j (a.cast h.1.symm)).val * strides a + (w a).val
            ∧ (j (a.cast h.1.symm)).val * strides a + (w a).val - lo a < s.size a
          then (x (fun a => ⟨(j (a.cast h.1.symm)).val * strides a + (w a).val - lo a, (hin a).2⟩) : EReal) else 0 := by
  show Ideal.hostReduceWindowAdd window strides lo hi h x (v (Shape.Idx.first Gen.h_S_)) j = _
  unfold Ideal.hostReduceWindowAdd Host.reduceWindow
  simp only []
  rw [hv]
  refine (foldl_sum _ _).trans ?_
  rw [zero_add]
  exact Equiv.sum_comp (⟨s.rank, window⟩ : Shape).rowMajor.symm (fun w : (⟨s.rank, window⟩ : Shape).Idx => if hin : ∀ a, lo a ≤ (j (a.cast h.1.symm)).val * strides a + (w a).val
            ∧ (j (a.cast h.1.symm)).val * strides a + (w a).val - lo a < s.size a
          then (x (fun a => ⟨(j (a.cast h.1.symm)).val * strides a + (w a).val - lo a, (hin a).2⟩) : EReal) else 0)

/-- The running sum down two rows, at row 0. -/
theorem win2 (x : Vec Ideal S2x512 .f32) (v : Vec Ideal S_ .f32) (hv : v (Shape.Idx.first Gen.h_S_) = (0 : EReal)) (l : Fin 512) :
    Host.reduceWindowAdd (F := Ideal) (φ := .f32) ![2, 1] ![1, 1] ![1, 0] ![0, 0] x v Gen.reduceWindows_S2x512_S2x512_w2s1p1_0_w1s1p0_0 Gen.h_S_ (ix2 0 l : S2x512.Idx) = x (ix2 0 l) := by
  rw [win_sum _ _ _ _ _ _ hv]
  rw [Finset.sum_eq_single (ix2 1 0 : (⟨2, ![2, 1]⟩ : Shape).Idx)]
  · rw [dif_pos]
    · congr 1
      funext a
      fin_cases a
      · rfl
      · exact Fin.ext (by show l.val * 1 + 0 - 0 = l.val; omega)
    · intro a
      fin_cases a
      · show 1 ≤ 0 * 1 + 1 ∧ 0 * 1 + 1 - 1 < 2
        decide
      · show 0 ≤ l.val * 1 + 0 ∧ l.val * 1 + 0 - 0 < 512
        omega
  · intro w _ hw
    rw [dif_neg]
    intro hin
    apply hw
    have h0 := (hin 0).1
    change 1 ≤ 0 * 1 + (w 0).val at h0
    funext a
    fin_cases a
    · exact Fin.ext (by have := (w 0).isLt; change (w 0).val < 2 at this; show (w 0).val = 1; omega)
    · exact Fin.ext (by have := (w 1).isLt; change (w 1).val < 1 at this; show (w 1).val = 0; omega)
  · intro h
    exact absurd (Finset.mem_univ _) h

/-- The running sum down the 64 rows of a chunk. -/
theorem win5 (x : Vec Ideal S64x4x4x64x128 .f32) (v : Vec Ideal S_ .f32) (hv : v (Shape.Idx.first Gen.h_S_) = (0 : EReal))
    (n : Fin 64) (b h : Fin 4) (c : Fin 64) (d : Fin 128) :
    Host.reduceWindowAdd (F := Ideal) (φ := .f32) ![1, 1, 1, 64, 1] ![1, 1, 1, 1, 1] ![0, 0, 0, 63, 0] ![0, 0, 0, 0, 0] x v
        Gen.reduceWindows_S64x4x4x64x128_S64x4x4x64x128_w1s1p0_0_w1s1p0_0_w1s1p0_0_w64s1p63_0_w1s1p0_0 Gen.h_S_ (ix5 n b h c d : S64x4x4x64x128.Idx)
      = ∑ s : Fin 64, if s.val ≤ c.val then (x (ix5 n b h s d) : EReal) else 0 := by
  rw [win_sum _ _ _ _ _ _ hv]
  refine (Finset.sum_bij_ne_zero (fun (s : Fin 64) hs h0 => (ix5 0 0 0 ⟨s.val + (63 - c.val), ?_⟩ 0 : (⟨5, ![1, 1, 1, 64, 1]⟩ : Shape).Idx)) ?_ ?_ ?_ ?_).symm
  · have : s.val ≤ c.val := by
      by_contra hc
      exact h0 (if_neg hc)
    omega
  · intros; exact Finset.mem_univ _
  · intro s _ hs s' _ hs' e
    have e3 := congrFun e 3
    have e4 : s.val + (63 - c.val) = s'.val + (63 - c.val) := congrArg Fin.val e3
    exact Fin.ext (by omega)
  · intro w _ hw
    split at hw
    case isFalse => exact absurd rfl hw
    rename_i hin
    have h3 := hin 3
    change 63 ≤ c.val * 1 + (w 3).val ∧ c.val * 1 + (w 3).val - 63 < 64 at h3
    have hlt : (w 3).val < 64 := (w 3).isLt
    have e : (ix5 0 0 0 ⟨(c.val + (w 3).val - 63) + (63 - c.val), by omega⟩ 0 : (⟨5, ![1, 1, 1, 64, 1]⟩ : Shape).Idx) = w := by
      funext a
      fin_cases a
      · exact Fin.ext (by have : (w 0).val < 1 := (w 0).isLt; show 0 = (w 0).val; omega)
      · exact Fin.ext (by have : (w 1).val < 1 := (w 1).isLt; show 0 = (w 1).val; omega)
      · exact Fin.ext (by have : (w 2).val < 1 := (w 2).isLt; show 0 = (w 2).val; omega)
      · exact Fin.ext (by show (c.val + (w 3).val - 63) + (63 - c.val) = (w 3).val; omega)
      · exact Fin.ext (by have : (w 4).val < 1 := (w 4).isLt; show 0 = (w 4).val; omega)
    have ex : (fun a => ⟨((ix5 n b h c d : S64x4x4x64x128.Idx) (a.cast rfl)).val * (![1, 1, 1, 1, 1] : Fin 5 → ℕ) a + (w a).val - (![0, 0, 0, 63, 0] : Fin 5 → ℕ) a, (hin a).2⟩ : S64x4x4x64x128.Idx)
        = ix5 n b h ⟨c.val + (w 3).val - 63, by omega⟩ d := by
      funext a
      fin_cases a
      · exact Fin.ext (by have : (w 0).val < 1 := (w 0).isLt; show n.val * 1 + (w 0).val - 0 = n.val; omega)
      · exact Fin.ext (by have : (w 1).val < 1 := (w 1).isLt; show b.val * 1 + (w 1).val - 0 = b.val; omega)
      · exact Fin.ext (by have : (w 2).val < 1 := (w 2).isLt; show h.val * 1 + (w 2).val - 0 = h.val; omega)
      · exact Fin.ext (by show c.val * 1 + (w 3).val - 63 = c.val + (w 3).val - 63; omega)
      · exact Fin.ext (by have : (w 4).val < 1 := (w 4).isLt; show d.val * 1 + (w 4).val - 0 = d.val; omega)
    refine ⟨⟨c.val + (w 3).val - 63, by omega⟩, Finset.mem_univ _, ?_, e⟩
    rw [if_pos (by show c.val + (w 3).val - 63 ≤ c.val; omega)]
    intro h0
    exact hw ((congrArg x ex).trans h0)
  · intro s _ hs
    have hc : s.val ≤ c.val := by
      by_contra hc
      exact hs (if_neg hc)
    rw [if_pos hc, dif_pos]
    · congr 1
      funext a
      fin_cases a
      · exact Fin.ext (by show n.val = n.val * 1 + 0 - 0; omega)
      · exact Fin.ext (by show b.val = b.val * 1 + 0 - 0; omega)
      · exact Fin.ext (by show h.val = h.val * 1 + 0 - 0; omega)
      · exact Fin.ext (by show s.val = c.val * 1 + (s.val + (63 - c.val)) - 63; omega)
      · exact Fin.ext (by show d.val = d.val * 1 + 0 - 0; omega)
    · intro a
      fin_cases a
      · show 0 ≤ n.val * 1 + 0 ∧ n.val * 1 + 0 - 0 < 64; omega
      · show 0 ≤ b.val * 1 + 0 ∧ b.val * 1 + 0 - 0 < 4; omega
      · show 0 ≤ h.val * 1 + 0 ∧ h.val * 1 + 0 - 0 < 4; omega
      · show 63 ≤ c.val * 1 + (s.val + (63 - c.val)) ∧ c.val * 1 + (s.val + (63 - c.val)) - 63 < 64; omega
      · show 0 ≤ d.val * 1 + 0 ∧ d.val * 1 + 0 - 0 < 128; omega
section
variable (m : (ℓ : Loc nD τ sig) → Buf (Elt Ideal) ℓ)

/-- The buffers where the loop starts. -/
abbrev E (c : Dev nD) : Valuation τ sig (Elt Ideal) := entryContents preI m c
/-- The rates' lower bound. -/
def lowR (c : Dev nD) : ℕ → EReal := lower (launchContents m c (Proc.devRef .tc main_arg2))
/-- A column of the projection. -/
def SR (c : Dev nD) (b : Fin 4) (o : ℕ) : ℕ → ℕ → EReal :=
  sec (launchContents m c (Proc.devRef .tc main_arg0)) (launchContents m c (Proc.devRef .tc main_arg1)) b o

/-- The first row's share of the two rows' exponentials. -/
theorem E_v10 (c : Dev nD) (l : Fin 512) : (E m c (Proc.devRef .tc main_v10)) (ix2 0 l) = lowR m c l.val := by
  unfold E
  simp only [entryContents, afterL_cons, afterL_nil]
  after_reads_at
  unfold lowR lower
  refine Eq.trans ?_ (dif_pos l.isLt).symm
  have hm : max (Ideal.ofBits FTy.f32 4286578688#32) (Finset.fold max (Ideal.ofBits FTy.f32 4286578688#32) (fun x => launchContents m c (Proc.devRef .tc main_arg2) (ix2 x l)) Finset.univ)
      = Finset.fold max (Ideal.ofBits FTy.f32 4286578688#32) (fun x => launchContents m c (Proc.devRef .tc main_arg2) (ix2 x l)) Finset.univ :=
    max_eq_right ((Finset.le_fold_max _).mpr (Or.inl le_rfl))
  simp only [hm]

/-- The bound, read from the running sum's first row. -/
theorem E_v14 (c : Dev nD) (l : Fin 512) : (E m c (Proc.devRef .tc main_v14)) (ix1 l) = lowR m c l.val := by
  have e : E m c (Proc.devRef .tc main_v14) = shapeCast S512 (extractStridedSlice S1x512 ![0, 0] (Host.reduceWindowAdd (F := Ideal) (φ := .f32) ![2, 1] ![1, 1] ![1, 0] ![0, 0] (E m c (Proc.devRef .tc main_v10))
      (broadcastInDim S_ ![] Gen.bcast_S_S_ (constant (F := Ideal) S_ .f32 0x00000000#32)) Gen.reduceWindows_S2x512_S2x512_w2s1p1_0_w1s1p0_0 Gen.h_S_) Gen.slices_S2x512_S1x512_0_0) Gen.shapeCasts_S1x512_S512 := by
    unfold E
    simp only [entryContents, afterL_cons, afterL_nil]
    after_reads_simp
    simp -implicitDefEqProofs only [StableHlo.TRef.toBuf, StableHlo.TRef.ofBuf, cast_cast, cast_eq]
    clean_types
    rfl
  rw [e]
  clean_types
  pointwise
  refine (win2 _ _ ?_ l).trans (E_v10 m c l)
  pointwise
/-- The queries. -/
theorem E_v48 (c : Dev nD) (n : Fin 64) (b h : Fin 4) (s : Fin 64) (d : Fin 128) : (E m c (Proc.devRef .tc main_v48)) (ix5 n b h s d)
    = ∑ x : Fin 1024, HMul.hMul (α := EReal) (β := EReal) (launchContents m c (Proc.devRef .tc main_arg0) (ix3 b ⟨n.val * 64 + s.val, by omega⟩ x)) (launchContents m c (Proc.devRef .tc main_arg1) (ix3 0 x ⟨h.val * 128 + d.val, by omega⟩)) := by
  unfold E
  simp only [entryContents, afterL_cons, afterL_nil]
  after_reads_at

/-- The inputs. -/
theorem E_v52 (c : Dev nD) (n : Fin 64) (b h : Fin 4) (s : Fin 64) (d : Fin 128) : (E m c (Proc.devRef .tc main_v52)) (ix5 n b h s d)
    = ∑ x : Fin 1024, HMul.hMul (α := EReal) (β := EReal) (launchContents m c (Proc.devRef .tc main_arg0) (ix3 b ⟨n.val * 64 + s.val, by omega⟩ x)) (launchContents m c (Proc.devRef .tc main_arg1) (ix3 0 x ⟨1024 + (h.val * 128 + d.val), by omega⟩)) := by
  unfold E
  simp only [entryContents, afterL_cons, afterL_nil]
  after_reads_at

/-- The log rates. -/
theorem E_v54 (c : Dev nD) (n : Fin 64) (b h : Fin 4) (s : Fin 64) (d : Fin 128) : (E m c (Proc.devRef .tc main_v54)) (ix5 n b h s d)
    = Ideal.log (E m c (Proc.devRef .tc main_v39) (ix3 b ⟨n.val * 64 + s.val, by omega⟩ ⟨h.val * 128 + d.val, by omega⟩)) := by
  have e : E m c (Proc.devRef .tc main_v54) = transpose S64x4x4x64x128 [1, 0, 3, 2, 4] (shapeCast S4x64x64x4x128 (shapeCast S4x4096x4x128 (Host.log (F := Ideal) (φ := .f32) (s := S4x4096x512) (E m c (Proc.devRef .tc main_v39))) Gen.shapeCasts_S4x4096x512_S4x4096x4x128) Gen.shapeCasts_S4x4096x4x128_S4x64x64x4x128) Gen.transposes_S4x64x64x4x128_S64x4x4x64x128_1_0_3_2_4 := by
    unfold E
    simp only [entryContents, afterL_cons, afterL_nil]
    after_reads_simp
    try rfl
  rw [e]
  generalize E m c (Proc.devRef .tc main_v39) = V
  clean_types
  pointwise

/-- The keys. -/
theorem E_v50 (c : Dev nD) (n : Fin 64) (b h : Fin 4) (s : Fin 64) (d : Fin 128) : (E m c (Proc.devRef .tc main_v50)) (ix5 n b h s d)
    = HSub.hSub (α := EReal) (β := EReal) 1 (E m c (Proc.devRef .tc main_v39) (ix3 b ⟨n.val * 64 + s.val, by omega⟩ ⟨h.val * 128 + d.val, by omega⟩)) := by
  have e : E m c (Proc.devRef .tc main_v50) = transpose S64x4x4x64x128 [1, 0, 3, 2, 4] (shapeCast S4x64x64x4x128 (shapeCast S4x4096x4x128 (subf (F := Ideal) (φ := .f32) (s := S4x4096x512) (broadcastInDim S4x4096x512 ![] Gen.bcast_S_S4x4096x512 (constant (F := Ideal) S_ .f32 0x3F800000#32)) (E m c (Proc.devRef .tc main_v39))) Gen.shapeCasts_S4x4096x512_S4x4096x4x128) Gen.shapeCasts_S4x4096x4x128_S4x64x64x4x128) Gen.transposes_S4x64x64x4x128_S64x4x4x64x128_1_0_3_2_4 := by
    unfold E
    simp only [entryContents, afterL_cons, afterL_nil]
    after_reads_simp
    try rfl
  rw [e]
  generalize E m c (Proc.devRef .tc main_v39) = V
  clean_types
  pointwise
/-- The other columns of the projection. -/
theorem E_secs (c : Dev nD) (b : Fin 4) (r : Fin 4096) (l : Fin 512) :
    (E m c (Proc.devRef .tc main_v20)) (ix3 b r l) = sec (launchContents m c (Proc.devRef .tc main_arg0)) (launchContents m c (Proc.devRef .tc main_arg1)) b 512 r.val l.val
    ∧ (E m c (Proc.devRef .tc main_v22)) (ix3 b r l) = sec (launchContents m c (Proc.devRef .tc main_arg0)) (launchContents m c (Proc.devRef .tc main_arg1)) b 1536 r.val l.val
    ∧ (E m c (Proc.devRef .tc main_v23)) (ix3 b r l) = sec (launchContents m c (Proc.devRef .tc main_arg0)) (launchContents m c (Proc.devRef .tc main_arg1)) b 2048 r.val l.val
    ∧ (E m c (Proc.devRef .tc main_v24)) (ix3 b r l) = sec (launchContents m c (Proc.devRef .tc main_arg0)) (launchContents m c (Proc.devRef .tc main_arg1)) b 2560 r.val l.val
    ∧ (E m c (Proc.devRef .tc main_v25)) (ix3 b r l) = sec (launchContents m c (Proc.devRef .tc main_arg0)) (launchContents m c (Proc.devRef .tc main_arg1)) b 3072 r.val l.val := by
  unfold E
  simp only [entryContents, afterL_cons, afterL_nil]
  refine ⟨?_, ?_, ?_, ?_, ?_⟩ <;> after_reads_at <;> refine Eq.trans ?_ (dif_pos ⟨r.isLt, by omega⟩).symm <;> rfl

/-- The weights as the loop reads them. -/
theorem E_weights (c : Dev nD) :
    (∀ l : Fin 512, E m c (Proc.devRef .tc main_v15) (ix1 l) = launchContents m c (Proc.devRef .tc main_arg3) (ix2 0 l))
    ∧ (∀ (i : Fin 3) (l : Fin 512), E m c (Proc.devRef .tc main_v16) (ix2 i l) = launchContents m c (Proc.devRef .tc main_arg4) (ix3 0 i l))
    ∧ (∀ q i : Fin 1024, E m c (Proc.devRef .tc main_v17) (ix2 q i) = launchContents m c (Proc.devRef .tc main_arg5) (ix3 0 q i)) := by
  unfold E
  simp only [entryContents, afterL_cons, afterL_nil]
  refine ⟨fun l => ?_, fun i l => ?_, fun q i => ?_⟩ <;> after_reads_at
/-- The rates. -/
theorem E_v39 (c : Dev nD) (b : Fin 4) (r : Fin 4096) (l : Fin 512) (h14 : ∀ l : Fin 512, (E m c (Proc.devRef .tc main_v14)) (ix1 l) = lowR m c l.val)
  (h20 : (E m c (Proc.devRef .tc main_v20)) (ix3 b r l) = SR m c b 512 r.val l.val) : (E m c (Proc.devRef .tc main_v39)) (ix3 b r l) = rate (lowR m c) (SR m c b 512) r.val l.val := by
  have e : E m c (Proc.devRef .tc main_v39) = addf (F := Ideal) (φ := .f32) (s := S4x4096x512) (broadcastInDim S4x4096x512 ![0, 1, 2] Gen.bcast_S1x1x512_S4x4096x512_0_1_2 (broadcastInDim S1x1x512 ![2] Gen.bcast_S512_S1x1x512_2 (E m c (Proc.devRef .tc main_v14))))
     (mulf (F := Ideal) (φ := .f32) (s := S4x4096x512) (broadcastInDim S4x4096x512 ![0, 1, 2] Gen.bcast_S1x1x512_S4x4096x512_0_1_2 (broadcastInDim S1x1x512 ![2] Gen.bcast_S512_S1x1x512_2 (subf (F := Ideal) (φ := .f32) (s := S512) (broadcastInDim S512 ![] Gen.bcast_S_S512 (constant (F := Ideal) S_ .f32 0x3F800000#32)) (E m c (Proc.devRef .tc main_v14)))))
       (Host.divf (F := Ideal) (φ := .f32) (s := S4x4096x512) (broadcastInDim S4x4096x512 ![] Gen.bcast_S_S4x4096x512 (constant (F := Ideal) S_ .f32 0x3F800000#32)) (addf (F := Ideal) (φ := .f32) (s := S4x4096x512) (broadcastInDim S4x4096x512 ![] Gen.bcast_S_S4x4096x512 (constant (F := Ideal) S_ .f32 0x3F800000#32)) (Host.exp (F := Ideal) (φ := .f32) (s := S4x4096x512) (Host.negf (F := Ideal) (φ := .f32) (s := S4x4096x512) (E m c (Proc.devRef .tc main_v20))))))) := by
    unfold E
    simp only [entryContents, afterL_cons, afterL_nil]
    after_reads_simp
  rw [e]
  have hlog : ∀ x : EReal, Ideal.logistic x = Ideal.div 1 (1 + Ideal.exp (-x)) := fun _ => rfl
  unfold rate
  rw [← h14 l, ← h20, hlog]
  generalize E m c (Proc.devRef .tc main_v14) = V
  generalize E m c (Proc.devRef .tc main_v20) = V2
  clean_types
  pointwise

/-- The log rates added up within a chunk. -/
theorem E_v55 (c : Dev nD) (n : Fin 64) (b h : Fin 4) (s : Fin 64) (d : Fin 128)
    (h54 : ∀ s : Fin 64, (E m c (Proc.devRef .tc main_v54)) (ix5 n b h s d) = Ideal.log (rate (lowR m c) (SR m c b 512) (n.val * 64 + s.val) (h.val * 128 + d.val))) :
    (E m c (Proc.devRef .tc main_v55)) (ix5 n b h s d) = cum (lowR m c) (SR m c b 512) n.val s.val (h.val * 128 + d.val) := by
  have e : (E m c (Proc.devRef .tc main_v55)) = Host.reduceWindowAdd (F := Ideal) (φ := .f32) ![1, 1, 1, 64, 1] ![1, 1, 1, 1, 1] ![0, 0, 0, 63, 0] ![0, 0, 0, 0, 0] (E m c (Proc.devRef .tc main_v54)) (broadcastInDim S_ ![] Gen.bcast_S_S_ (constant (F := Ideal) S_ .f32 0x00000000#32))
        Gen.reduceWindows_S64x4x4x64x128_S64x4x4x64x128_w1s1p0_0_w1s1p0_0_w1s1p0_0_w64s1p63_0_w1s1p0_0 Gen.h_S_ := by
    unfold E
    simp only [entryContents, afterL_cons, afterL_nil]
    after_reads_simp
    simp -implicitDefEqProofs only [StableHlo.TRef.toBuf, StableHlo.TRef.ofBuf, cast_cast, cast_eq]
  rw [e]
  refine (win5 _ _ ?_ n b h s d).trans ?_
  · pointwise
  · unfold cum
    exact Finset.sum_congr rfl fun s' _ => by rw [h54 s']

/-- The causal mask. -/
theorem E_v59 (c : Dev nD) (s s' : Fin 64) : (E m c (Proc.devRef .tc main_v59)) (ix2 s s') = if s'.val ≤ s.val then 1#1 else 0#1 := by
  unfold E
  simp only [entryContents, afterL_cons, afterL_nil]
  after_reads_at
  have e : IntOp.cmpi CmpIPredicate.sge (IntOp.addi (BitVec.ofNat 32 s.val) 0#32) (BitVec.ofNat 32 s'.val) = if s'.val ≤ s.val then 1#1 else 0#1 := by
    revert s s'
    decide +kernel
  rw [e]
  split <;> rfl

/-- A chunk's row 32 spread over its rows. -/
theorem row32 (V2 : FVec Ideal S64x4x4x64x128 .f32) (n : Fin 64) (b h : Fin 4) (s : Fin 64) (d : Fin 128) :
    (broadcastInDim S64x4x4x64x128 ![0, 1, 2, 3, 4] Gen.bcast_S64x4x4x1x128_S64x4x4x64x128_0_1_2_3_4 (extractStridedSlice S64x4x4x1x128 ![0, 0, 0, 32, 0] V2 Gen.slices_S64x4x4x64x128_S64x4x4x1x128_0_0_0_32_0)) (ix5 n b h s d) = V2 (ix5 n b h 32 d) := by
  pointwise
/-- A chunk's row 63 spread over its rows. -/
theorem row63 (V2 : FVec Ideal S64x4x4x64x128 .f32) (n : Fin 64) (b h : Fin 4) (s : Fin 64) (d : Fin 128) :
    (broadcastInDim S64x4x4x64x128 ![0, 1, 2, 3, 4] Gen.bcast_S64x4x4x1x128_S64x4x4x64x128_0_1_2_3_4 (extractStridedSlice S64x4x4x1x128 ![0, 0, 0, 63, 0] V2 Gen.slices_S64x4x4x64x128_S64x4x4x1x128_0_0_0_63_0)) (ix5 n b h s d) = V2 (ix5 n b h 63 d) := by
  pointwise
theorem mul_exp_sub (V A B : FVec Ideal S64x4x4x64x128 .f32) (i : S64x4x4x64x128.Idx) :
    mulf (F := Ideal) (φ := .f32) (s := S64x4x4x64x128) V (Host.exp (F := Ideal) (φ := .f32) (s := S64x4x4x64x128) (subf (F := Ideal) (φ := .f32) (s := S64x4x4x64x128) A B)) i
      = HMul.hMul (α := EReal) (β := EReal) (V i) (Ideal.exp (HSub.hSub (α := EReal) (β := EReal) (A i) (B i))) := rfl

/-- The masked scores. -/
theorem E_v69 (c : Dev nD) (n : Fin 64) (b h : Fin 4) (s s' : Fin 64)
    (h59 : (E m c (Proc.devRef .tc main_v59)) (ix2 s s') = if s'.val ≤ s.val then 1#1 else 0#1)
    (h63 : ∀ (s : Fin 64) (d : Fin 128), (E m c (Proc.devRef .tc main_v63)) (ix5 n b h s d)
      = SR m c b 0 (n.val * 64 + s.val) (h.val * 128 + d.val) * Ideal.exp (cum (lowR m c) (SR m c b 512) n.val s.val (h.val * 128 + d.val) - cum (lowR m c) (SR m c b 512) n.val 32 (h.val * 128 + d.val)))
    (h67 : ∀ (s : Fin 64) (d : Fin 128), (E m c (Proc.devRef .tc main_v67)) (ix5 n b h s d)
      = key (lowR m c) (SR m c b 512) (n.val * 64 + s.val) (h.val * 128 + d.val) * Ideal.exp (cum (lowR m c) (SR m c b 512) n.val 32 (h.val * 128 + d.val) - cum (lowR m c) (SR m c b 512) n.val s.val (h.val * 128 + d.val))) :
    (E m c (Proc.devRef .tc main_v69)) (ix5 n b h s s') = if s'.val ≤ s.val then score (lowR m c) (SR m c b 512) (SR m c b 0) n.val h.val s.val s'.val else 0 := by
  have e : (E m c (Proc.devRef .tc main_v69)) = select (broadcastInDim S64x4x4x64x64 ![3, 4] Gen.bcast_S64x64_S64x4x4x64x64_3_4 (E m c (Proc.devRef .tc main_v59)))
      (Host.dotGeneral (F := Ideal) (φ₁ := .f32) (φ₂ := .f32) dot_S64x4x4x64x128_S64x4x4x64x128_S64x4x4x64x64_4_4_3_3_012_012 none (E m c (Proc.devRef .tc main_v63)) (E m c (Proc.devRef .tc main_v67)))
      (broadcastInDim S64x4x4x64x64 ![] Gen.bcast_S_S64x4x4x64x64 (constant (F := Ideal) S_ .f32 0x00000000#32)) := by
    unfold E
    simp only [entryContents, afterL_cons, afterL_nil]
    after_reads_simp
    simp -implicitDefEqProofs only [StableHlo.TRef.toBuf, StableHlo.TRef.ofBuf, cast_cast, cast_eq]
    clean_types
    rfl
  have e2 : score (lowR m c) (SR m c b 512) (SR m c b 0) n.val h.val s.val s'.val
      = ∑ x : Fin 128, HMul.hMul (α := EReal) (β := EReal) ((E m c (Proc.devRef .tc main_v63)) (ix5 n b h s x)) ((E m c (Proc.devRef .tc main_v67)) (ix5 n b h s' x)) := by
    unfold score
    exact Finset.sum_congr rfl fun x _ => by rw [h63 s x, h67 s' x]
  have e3 : ∀ (w : BitVec 1) (y : EReal), w = (if s'.val ≤ s.val then 1#1 else 0#1) → Scalar.select w y 0 = if s'.val ≤ s.val then y else 0 := by
    intro w y hw
    subst hw
    by_cases hc : s'.val ≤ s.val
    · rw [if_pos hc, if_pos hc]
      rfl
    · rw [if_neg hc, if_neg hc]
      rfl
  rw [e, e2]
  clear e e2 h63 h67
  revert h59
  generalize E m c (Proc.devRef .tc main_v59) = V
  generalize E m c (Proc.devRef .tc main_v63) = V2
  generalize E m c (Proc.devRef .tc main_v67) = V3
  intro h59
  clean_types
  refine Eq.trans ?_ (e3 (V (ix2 s s')) _ h59)
  pointwise

/-- The chunk's own part of the recurrence. -/
theorem E_v70 (c : Dev nD) (n : Fin 64) (b h : Fin 4) (s : Fin 64) (d : Fin 128)
    (h69 : ∀ s' : Fin 64, (E m c (Proc.devRef .tc main_v69)) (ix5 n b h s s') = if s'.val ≤ s.val then score (lowR m c) (SR m c b 512) (SR m c b 0) n.val h.val s.val s'.val else 0)
    (h52 : ∀ s : Fin 64, (E m c (Proc.devRef .tc main_v52)) (ix5 n b h s d) = SR m c b 1024 (n.val * 64 + s.val) (h.val * 128 + d.val)) :
    (E m c (Proc.devRef .tc main_v70)) (ix5 n b h s d)
      = ∑ s' : Fin 64, (if s'.val ≤ s.val then score (lowR m c) (SR m c b 512) (SR m c b 0) n.val h.val s.val s'.val else 0) * SR m c b 1024 (n.val * 64 + s'.val) (h.val * 128 + d.val) := by
  have e : (E m c (Proc.devRef .tc main_v70)) = Host.dotGeneral (F := Ideal) (φ₁ := .f32) (φ₂ := .f32) dot_S64x4x4x64x64_S64x4x4x64x128_S64x4x4x64x128_4_3_3_4_012_012 none (E m c (Proc.devRef .tc main_v69)) (E m c (Proc.devRef .tc main_v52)) := by
    unfold E
    simp only [entryContents, afterL_cons, afterL_nil]
    after_reads_simp
  have e2 : (∑ s' : Fin 64, (if s'.val ≤ s.val then score (lowR m c) (SR m c b 512) (SR m c b 0) n.val h.val s.val s'.val else 0) * SR m c b 1024 (n.val * 64 + s'.val) (h.val * 128 + d.val))
      = ∑ x : Fin 64, HMul.hMul (α := EReal) (β := EReal) ((E m c (Proc.devRef .tc main_v69)) (ix5 n b h s x)) ((E m c (Proc.devRef .tc main_v52)) (ix5 n b h x d)) :=
    Finset.sum_congr rfl fun x _ => by rw [h69 x, h52 x]
  rw [e, e2]
  generalize E m c (Proc.devRef .tc main_v69) = V
  generalize E m c (Proc.devRef .tc main_v52) = V2
  clean_types
  pointwise
section
variable (c : Dev nD) (h55 : ∀ (n : Fin 64) (b h : Fin 4) (s : Fin 64) (d : Fin 128), (E m c (Proc.devRef .tc main_v55)) (ix5 n b h s d) = cum (lowR m c) (SR m c b 512) n.val s.val (h.val * 128 + d.val))
  (h48 : ∀ (n : Fin 64) (b h : Fin 4) (s : Fin 64) (d : Fin 128), (E m c (Proc.devRef .tc main_v48)) (ix5 n b h s d) = SR m c b 0 (n.val * 64 + s.val) (h.val * 128 + d.val))
  (h50 : ∀ (n : Fin 64) (b h : Fin 4) (s : Fin 64) (d : Fin 128), (E m c (Proc.devRef .tc main_v50)) (ix5 n b h s d) = key (lowR m c) (SR m c b 512) (n.val * 64 + s.val) (h.val * 128 + d.val))
  (h52 : ∀ (n : Fin 64) (b h : Fin 4) (s : Fin 64) (d : Fin 128), (E m c (Proc.devRef .tc main_v52)) (ix5 n b h s d) = SR m c b 1024 (n.val * 64 + s.val) (h.val * 128 + d.val))
include h55 h48

/-- The queries from row 32. -/
theorem E_v63 (n : Fin 64) (b h : Fin 4) (s : Fin 64) (d : Fin 128) : (E m c (Proc.devRef .tc main_v63)) (ix5 n b h s d)
    = SR m c b 0 (n.val * 64 + s.val) (h.val * 128 + d.val) * Ideal.exp (cum (lowR m c) (SR m c b 512) n.val s.val (h.val * 128 + d.val) - cum (lowR m c) (SR m c b 512) n.val 32 (h.val * 128 + d.val)) := by
  have e : E m c (Proc.devRef .tc main_v63) = mulf (F := Ideal) (φ := .f32) (s := S64x4x4x64x128) (E m c (Proc.devRef .tc main_v48)) (Host.exp (F := Ideal) (φ := .f32) (s := S64x4x4x64x128) (subf (F := Ideal) (φ := .f32) (s := S64x4x4x64x128) (E m c (Proc.devRef .tc main_v55))
       (broadcastInDim S64x4x4x64x128 ![0, 1, 2, 3, 4] Gen.bcast_S64x4x4x1x128_S64x4x4x64x128_0_1_2_3_4 (extractStridedSlice S64x4x4x1x128 ![0, 0, 0, 32, 0] (E m c (Proc.devRef .tc main_v55)) Gen.slices_S64x4x4x64x128_S64x4x4x1x128_0_0_0_32_0)))) := by
    unfold E
    simp only [entryContents, afterL_cons, afterL_nil]
    after_reads_simp
  have h1 : _ = cum (lowR m c) (SR m c b 512) n.val 32 (h.val * 128 + d.val) := h55 n b h 32 d
  rw [e, ← h48, ← h55 n b h s d, ← h1]
  generalize E m c (Proc.devRef .tc main_v48) = V
  generalize E m c (Proc.devRef .tc main_v55) = V2
  clean_types
  pointwise

/-- The queries from the chunk's start. -/
theorem E_v72 (n : Fin 64) (b h : Fin 4) (s : Fin 64) (d : Fin 128) : (E m c (Proc.devRef .tc main_v81_0)) (ix5 n b h s d)
    = SR m c b 0 (n.val * 64 + s.val) (h.val * 128 + d.val) * Ideal.exp (cum (lowR m c) (SR m c b 512) n.val s.val (h.val * 128 + d.val)) := by
  have e : E m c (Proc.devRef .tc main_v81_0) = mulf (F := Ideal) (φ := .f32) (s := S64x4x4x64x128) (E m c (Proc.devRef .tc main_v48)) (Host.exp (F := Ideal) (φ := .f32) (s := S64x4x4x64x128) (E m c (Proc.devRef .tc main_v55))) := by
    unfold E
    simp only [entryContents, afterL_cons, afterL_nil]
    after_reads_simp
    rfl
  rw [e, ← h48, ← h55 n b h s d]
  generalize E m c (Proc.devRef .tc main_v48) = V
  generalize E m c (Proc.devRef .tc main_v55) = V2
  clean_types
  pointwise

omit h48
include h50
/-- The keys up to row 32. -/
theorem E_v67 (n : Fin 64) (b h : Fin 4) (s : Fin 64) (d : Fin 128) : (E m c (Proc.devRef .tc main_v67)) (ix5 n b h s d)
    = key (lowR m c) (SR m c b 512) (n.val * 64 + s.val) (h.val * 128 + d.val) * Ideal.exp (cum (lowR m c) (SR m c b 512) n.val 32 (h.val * 128 + d.val) - cum (lowR m c) (SR m c b 512) n.val s.val (h.val * 128 + d.val)) := by
  have e : E m c (Proc.devRef .tc main_v67) = mulf (F := Ideal) (φ := .f32) (s := S64x4x4x64x128) (E m c (Proc.devRef .tc main_v50)) (Host.exp (F := Ideal) (φ := .f32) (s := S64x4x4x64x128) (subf (F := Ideal) (φ := .f32) (s := S64x4x4x64x128)
       (broadcastInDim S64x4x4x64x128 ![0, 1, 2, 3, 4] Gen.bcast_S64x4x4x1x128_S64x4x4x64x128_0_1_2_3_4 (extractStridedSlice S64x4x4x1x128 ![0, 0, 0, 32, 0] (E m c (Proc.devRef .tc main_v55)) Gen.slices_S64x4x4x64x128_S64x4x4x1x128_0_0_0_32_0)) (E m c (Proc.devRef .tc main_v55)))) := by
    unfold E
    simp only [entryContents, afterL_cons, afterL_nil]
    after_reads_simp
  have h1 : _ = cum (lowR m c) (SR m c b 512) n.val 32 (h.val * 128 + d.val) := h55 n b h 32 d
  rw [e, ← h50, ← h55 n b h s d, ← h1]
  exact (mul_exp_sub _ _ _ (ix5 n b h s d)).trans (by rw [row32])

/-- The keys up to the chunk's end. -/
theorem E_v76 (n : Fin 64) (b h : Fin 4) (s : Fin 64) (d : Fin 128) : (E m c (Proc.devRef .tc main_v81_1)) (ix5 n b h s d)
    = key (lowR m c) (SR m c b 512) (n.val * 64 + s.val) (h.val * 128 + d.val) * Ideal.exp (cum (lowR m c) (SR m c b 512) n.val 63 (h.val * 128 + d.val) - cum (lowR m c) (SR m c b 512) n.val s.val (h.val * 128 + d.val)) := by
  have e : E m c (Proc.devRef .tc main_v81_1) = mulf (F := Ideal) (φ := .f32) (s := S64x4x4x64x128) (E m c (Proc.devRef .tc main_v50)) (Host.exp (F := Ideal) (φ := .f32) (s := S64x4x4x64x128) (subf (F := Ideal) (φ := .f32) (s := S64x4x4x64x128)
       (broadcastInDim S64x4x4x64x128 ![0, 1, 2, 3, 4] Gen.bcast_S64x4x4x1x128_S64x4x4x64x128_0_1_2_3_4 (extractStridedSlice S64x4x4x1x128 ![0, 0, 0, 63, 0] (E m c (Proc.devRef .tc main_v55)) Gen.slices_S64x4x4x64x128_S64x4x4x1x128_0_0_0_63_0)) (E m c (Proc.devRef .tc main_v55)))) := by
    unfold E
    simp only [entryContents, afterL_cons, afterL_nil]
    after_reads_simp
    rfl
  have h1 : _ = cum (lowR m c) (SR m c b 512) n.val 63 (h.val * 128 + d.val) := h55 n b h 63 d
  rw [e, ← h50, ← h55 n b h s d, ← h1]
  exact (mul_exp_sub _ _ _ (ix5 n b h s d)).trans (by rw [row63])

omit h50
/-- A chunk's whole decay. -/
theorem E_v78 (n : Fin 64) (b h : Fin 4) (d : Fin 128) : (E m c (Proc.devRef .tc main_v81_3)) (ix4 n b h d)
    = Ideal.exp (cum (lowR m c) (SR m c b 512) n.val 63 (h.val * 128 + d.val)) := by
  have e : E m c (Proc.devRef .tc main_v81_3) = Host.exp (F := Ideal) (φ := .f32) (s := S64x4x4x128) (shapeCast S64x4x4x128 (extractStridedSlice S64x4x4x1x128 ![0, 0, 0, 63, 0] (E m c (Proc.devRef .tc main_v55)) Gen.slices_S64x4x4x64x128_S64x4x4x1x128_0_0_0_63_0) Gen.shapeCasts_S64x4x4x1x128_S64x4x4x128) := by
    unfold E
    simp only [entryContents, afterL_cons, afterL_nil]
    after_reads_simp
    rfl
  have h1 : _ = cum (lowR m c) (SR m c b 512) n.val 63 (h.val * 128 + d.val) := h55 n b h 63 d
  rw [e, ← h1]
  generalize E m c (Proc.devRef .tc main_v55) = V2
  clean_types
  pointwise

omit h55
include h52
/-- The inputs, as the loop carries them. -/
theorem E_v81_2 (n : Fin 64) (b h : Fin 4) (s : Fin 64) (d : Fin 128) : (E m c (Proc.devRef .tc main_v81_2)) (ix5 n b h s d)
    = SR m c b 1024 (n.val * 64 + s.val) (h.val * 128 + d.val) := by
  have e : E m c (Proc.devRef .tc main_v81_2) = E m c (Proc.devRef .tc main_v52) := by
    unfold E
    simp only [entryContents, afterL_cons, afterL_nil]
    after_reads_simp
    rfl
  rw [e]
  exact h52 n b h s d

omit h52
/-- The state starts at zero. -/
theorem E_zero5 (b h : Fin 4) (d e : Fin 128) : (E m c (Proc.devRef .tc main_v81_5)) (ix4 b h d e) = (0 : EReal) := by
  unfold E
  simp only [entryContents, afterL_cons, afterL_nil]
  after_reads_at
  rw [id_eq]
  pointwise

/-- The output starts at zero. -/
theorem E_zero6 (n : Fin 64) (b h : Fin 4) (s : Fin 64) (d : Fin 128) : (E m c (Proc.devRef .tc main_v81_6)) (ix5 n b h s d) = (0 : EReal) := by
  unfold E
  simp only [entryContents, afterL_cons, afterL_nil]
  after_reads_at
  rw [id_eq]
  pointwise
end
end
end Cert.MixRef
end
-- ==== Proof.MixRefLoop.lean ====
module

public import proofs.«01_k».proof.Proof.Gen.ReferenceIdeal.Run
public import proofs.«01_k».proof.Proof.MixSpec
public import Idealize.ShloMosaic.Lib.Pointwise
public import Idealize.ShloMosaic.Lib.Tactic.CleanTypes
public import Idealize.ShloMosaic.Lib.StableHlo.ReadAt
public import Idealize.ShloMosaic.Lib.WordCmp
public import Idealize.ShloMosaic.Lib.Claim

@[expose] public section

set_option maxRecDepth 16384
set_option maxHeartbeats 2000000

noncomputable section

/-! # The reference's loop over the chunks -/

namespace Cert.MixRef
open Idealize.ShloMosaic Idealize.ShloMosaic.TcCoe Idealize.SL.Sem Idealize.ShloMosaic.StableHlo
open Cert.ReferenceIdeal Cert.ReferenceIdeal.Value Cert.Mix

section
variable (k : Fin 64)

theorem start_k : (BitVec.ofNat 32 k.val).toInt = (k.val : Int) := by
  revert k
  decide

theorem sl5 : S64x4x4x64x128.Slices ![k.val, 0, 0, 0, 0] S1x4x4x64x128 :=
  ⟨rfl, fun a => by have := k.isLt; fin_cases a <;> simp <;> omega⟩
theorem sl4 : S64x4x4x128.Slices ![k.val, 0, 0, 0] S1x4x4x128 :=
  ⟨rfl, fun a => by have := k.isLt; fin_cases a <;> simp <;> omega⟩

/-- One trip's state, of the operands. -/
theorem trip5 (A3 : Vec Ideal S64x4x4x128 .f32) (A5 : Vec Ideal S4x4x128x128 .f32) (A1 A2 : Vec Ideal S64x4x4x64x128 .f32)
    (st4 : Fin 4 → Int) (st5 st5' : Fin 5 → Int) (h4 : ∀ a, st4 a = ((![k.val, 0, 0, 0] : Fin 4 → ℕ) a : Int))
    (h5 : ∀ a, st5 a = ((![k.val, 0, 0, 0, 0] : Fin 5 → ℕ) a : Int)) (h5' : ∀ a, st5' a = ((![k.val, 0, 0, 0, 0] : Fin 5 → ℕ) a : Int))
    (b h : Fin 4) (d e : Fin 128) :
    addf (F := Ideal) (φ := .f32) (s := S4x4x128x128) (mulf (F := Ideal) (φ := .f32) (s := S4x4x128x128) (broadcastInDim S4x4x128x128 ![0, 1, 2, 3] Gen.bcast_S4x4x128x1_S4x4x128x128_0_1_2_3 (broadcastInDim S4x4x128x1 ![0, 1, 2] Gen.bcast_S4x4x128_S4x4x128x1_0_1_2
        (shapeCast S4x4x128 (Host.dynamicSlice S1x4x4x128 A3 st4 Gen.sliceFits_S64x4x4x128_S1x4x4x128) Gen.shapeCasts_S1x4x4x128_S4x4x128))) A5)
      (Host.dotGeneral (F := Ideal) (φ₁ := .f32) (φ₂ := .f32) dot_S4x4x64x128_S4x4x64x128_S4x4x128x128_2_2_3_3_01_01 none
        (shapeCast S4x4x64x128 (Host.dynamicSlice S1x4x4x64x128 A1 st5 Gen.sliceFits_S64x4x4x64x128_S1x4x4x64x128) Gen.shapeCasts_S1x4x4x64x128_S4x4x64x128 : Vec Ideal S4x4x64x128 .f32)
        (shapeCast S4x4x64x128 (Host.dynamicSlice S1x4x4x64x128 A2 st5' Gen.sliceFits_S64x4x4x64x128_S1x4x4x64x128) Gen.shapeCasts_S1x4x4x64x128_S4x4x64x128 : Vec Ideal S4x4x64x128 .f32)) (ix4 b h d e)
      = (A3 (ix4 k b h d) * A5 (ix4 b h d e) + ∑ s : Fin 64, A1 (ix5 k b h s d) * A2 (ix5 k b h s e) : EReal) := by
  rw [WordCmp.dynamicSlice_eq_extract S1x4x4x128 A3 st4 _ _ (sl4 k) h4, WordCmp.dynamicSlice_eq_extract S1x4x4x64x128 A1 st5 _ _ (sl5 k) h5,
    WordCmp.dynamicSlice_eq_extract S1x4x4x64x128 A2 st5' _ _ (sl5 k) h5']
  pointwise

/-- One trip's rows, of the operands. -/
theorem trip6 (A6 : Vec Ideal S64x4x4x64x128 .f32) (A5 : Vec Ideal S4x4x128x128 .f32) (A0 : Vec Ideal S64x4x4x64x128 .f32)
    (st5 st5' : Fin 5 → Int)
    (h5 : ∀ a, st5 a = ((![k.val, 0, 0, 0, 0] : Fin 5 → ℕ) a : Int)) (h5' : ∀ a, st5' a = ((![k.val, 0, 0, 0, 0] : Fin 5 → ℕ) a : Int))
    (n : Fin 64) (b h : Fin 4) (c : Fin 64) (e : Fin 128) :
    (Host.dynamicUpdateSlice A6 (broadcastInDim S1x4x4x64x128 ![1, 2, 3, 4] Gen.bcast_S4x4x64x128_S1x4x4x64x128_1_2_3_4
      (Host.dotGeneral (F := Ideal) (φ₁ := .f32) (φ₂ := .f32) dot_S4x4x64x128_S4x4x128x128_S4x4x64x128_3_2_2_3_01_01 none
        (shapeCast S4x4x64x128 (Host.dynamicSlice S1x4x4x64x128 A0 st5 Gen.sliceFits_S64x4x4x64x128_S1x4x4x64x128) Gen.shapeCasts_S1x4x4x64x128_S4x4x64x128 : Vec Ideal S4x4x64x128 .f32) A5))
      st5' Gen.updateFits_S64x4x4x64x128_S1x4x4x64x128) (ix5 n b h c e)
      = if n = k then (∑ d : Fin 128, A0 (ix5 k b h c d) * A5 (ix4 b h d e) : EReal) else A6 (ix5 n b h c e) := by
  rw [WordCmp.dynamicSlice_eq_extract S1x4x4x64x128 A0 st5 _ _ (sl5 k) h5, WordCmp.dynamicUpdateSlice_eq_update A6 _ st5' _ _ (sl5 k) h5']
  pointwise
  by_cases hn : n = k
  · subst hn
    rw [dif_pos ⟨le_rfl, Nat.lt_succ_self _⟩, if_pos rfl]
  · have hv : ¬ n.val = k.val := fun e => hn (Fin.ext e)
    rw [dif_neg (by omega), if_neg hn]
end

section
variable (X : Valuation τ sig (Elt Ideal)) (k : Fin 64)

theorem at5 (hk : X (Proc.devRef .tc main_v81_4) = fun _ => BitVec.ofNat 32 k.val) (a : Fin 5) :
    (((![X (Proc.devRef .tc main_v81_4), constantI S_ 32 0#32, constantI S_ 32 0#32, constantI S_ 32 0#32, constantI S_ 32 0#32] : Fin 5 → (⟨S_, .i32⟩ : BufTy).Contents (Elt Ideal))) a (Shape.Idx.first Gen.h_S_)).toInt
      = ((![k.val, 0, 0, 0, 0] : Fin 5 → ℕ) a : Int) := by
  fin_cases a
  · show BitVec.toInt (X (Proc.devRef .tc main_v81_4) (Shape.Idx.first Gen.h_S_)) = _
    rw [hk]
    exact start_k k
  all_goals rfl

theorem at4 (hk : X (Proc.devRef .tc main_v81_4) = fun _ => BitVec.ofNat 32 k.val) (a : Fin 4) :
    (((![X (Proc.devRef .tc main_v81_4), constantI S_ 32 0#32, constantI S_ 32 0#32, constantI S_ 32 0#32] : Fin 4 → (⟨S_, .i32⟩ : BufTy).Contents (Elt Ideal))) a (Shape.Idx.first Gen.h_S_)).toInt
      = ((![k.val, 0, 0, 0] : Fin 4 → ℕ) a : Int) := by
  fin_cases a
  · show BitVec.toInt (X (Proc.devRef .tc main_v81_4) (Shape.Idx.first Gen.h_S_)) = _
    rw [hk]
    exact start_k k
  all_goals rfl

/-- One trip's state. -/
theorem step5 (hk : X (Proc.devRef .tc main_v81_4) = fun _ => BitVec.ofNat 32 k.val) (b h : Fin 4) (d e : Fin 128) :
    step_main_v81_5 X (ix4 b h d e)
      = HAdd.hAdd (α := EReal) (β := EReal) (HMul.hMul (α := EReal) (β := EReal) (X (Proc.devRef .tc main_v81_3) (ix4 k b h d)) (X (Proc.devRef .tc main_v81_5) (ix4 b h d e)))
        (∑ s : Fin 64, HMul.hMul (α := EReal) (β := EReal) (X (Proc.devRef .tc main_v81_1) (ix5 k b h s d)) (X (Proc.devRef .tc main_v81_2) (ix5 k b h s e))) :=
  trip5 k (X (Proc.devRef .tc main_v81_3)) (X (Proc.devRef .tc main_v81_5)) (X (Proc.devRef .tc main_v81_1)) (X (Proc.devRef .tc main_v81_2)) _ _ _
    (at4 X k hk) (at5 X k hk) (at5 X k hk) b h d e

/-- One trip's rows. -/
theorem step6 (hk : X (Proc.devRef .tc main_v81_4) = fun _ => BitVec.ofNat 32 k.val) (n : Fin 64) (b h : Fin 4) (c : Fin 64) (e : Fin 128) :
    step_main_v81_6 X (ix5 n b h c e)
      = if n = k then (∑ d : Fin 128, HMul.hMul (α := EReal) (β := EReal) (X (Proc.devRef .tc main_v81_0) (ix5 k b h c d)) (X (Proc.devRef .tc main_v81_5) (ix4 b h d e)))
        else X (Proc.devRef .tc main_v81_6) (ix5 n b h c e) :=
  trip6 k (X (Proc.devRef .tc main_v81_6)) (X (Proc.devRef .tc main_v81_5)) (X (Proc.devRef .tc main_v81_0)) _ _ (at5 X k hk) (at5 X k hk) n b h c e
end

section
variable (V : Valuation τ sig (Elt Ideal)) (lb : ℕ → EReal) (F Q I : Fin 4 → ℕ → ℕ → EReal)

/-- The carried buffers before trip `k`. -/
structure Inv (k : ℕ) (Y : Valuation τ sig (Elt Ideal)) : Prop where
  y0 : Y (Proc.devRef .tc main_v81_0) = V (Proc.devRef .tc main_v81_0)
  y1 : Y (Proc.devRef .tc main_v81_1) = V (Proc.devRef .tc main_v81_1)
  y2 : Y (Proc.devRef .tc main_v81_2) = V (Proc.devRef .tc main_v81_2)
  y3 : Y (Proc.devRef .tc main_v81_3) = V (Proc.devRef .tc main_v81_3)
  y4 : Y (Proc.devRef .tc main_v81_4) = fun _ => BitVec.ofNat 32 k
  y5 : ∀ (b h : Fin 4) (d e : Fin 128), Y (Proc.devRef .tc main_v81_5) (ix4 b h d e) = state lb (F b) (I b) k h.val e.val d.val
  y6 : ∀ (n : Fin 64) (b h : Fin 4) (c : Fin 64) (e : Fin 128), Y (Proc.devRef .tc main_v81_6) (ix5 n b h c e)
    = if n.val < k then ∑ d : Fin 128, Q b (n.val * 64 + c.val) (h.val * 128 + d.val) * Ideal.exp (cum lb (F b) n.val c.val (h.val * 128 + d.val)) * state lb (F b) (I b) n.val h.val e.val d.val else 0

theorem inv_step (k : Fin 64) (Y : Valuation τ sig (Elt Ideal)) (hY : Inv V lb F Q I k.val Y)
    (h0 : ∀ (n : Fin 64) (b h : Fin 4) (c : Fin 64) (d : Fin 128), V (Proc.devRef .tc main_v81_0) (ix5 n b h c d)
      = Q b (n.val * 64 + c.val) (h.val * 128 + d.val) * Ideal.exp (cum lb (F b) n.val c.val (h.val * 128 + d.val)))
    (h1 : ∀ (n : Fin 64) (b h : Fin 4) (s : Fin 64) (d : Fin 128), V (Proc.devRef .tc main_v81_1) (ix5 n b h s d)
      = key lb (F b) (n.val * 64 + s.val) (h.val * 128 + d.val) * Ideal.exp (cum lb (F b) n.val 63 (h.val * 128 + d.val) - cum lb (F b) n.val s.val (h.val * 128 + d.val)))
    (h2 : ∀ (n : Fin 64) (b h : Fin 4) (s : Fin 64) (e : Fin 128), V (Proc.devRef .tc main_v81_2) (ix5 n b h s e) = I b (n.val * 64 + s.val) (h.val * 128 + e.val))
    (h3 : ∀ (n : Fin 64) (b h : Fin 4) (d : Fin 128), V (Proc.devRef .tc main_v81_3) (ix4 n b h d) = Ideal.exp (cum lb (F b) n.val 63 (h.val * 128 + d.val))) :
    Inv V lb F Q I (k.val + 1) (STEP Y) where
  y0 := (STEP_main_v81_0 Y).trans hY.y0
  y1 := (STEP_main_v81_1 Y).trans hY.y1
  y2 := (STEP_main_v81_2 Y).trans hY.y2
  y3 := (STEP_main_v81_3 Y).trans hY.y3
  y4 := by
    rw [STEP_main_v81_4]
    unfold step_main_v81_4
    rw [hY.y4]
    funext _
    show BitVec.ofNat 32 k.val + 1#32 = BitVec.ofNat 32 (k.val + 1)
    exact BitVec.ofNat_add_ofNat ..
  y5 b h d e := by
    rw [STEP_main_v81_5, step5 Y k hY.y4, hY.y3, hY.y1, hY.y2, h3]
    simp only [h1, h2, hY.y5]
    rw [mul_comm]
    show _ = step _ _ _ _ _ _ _ _
    unfold step
    congr 1
    exact Finset.sum_congr rfl fun s _ => mul_comm _ _
  y6 n b h c e := by
    rw [STEP_main_v81_6, step6 Y k hY.y4, hY.y0]
    simp only [h0, hY.y5, hY.y6]
    by_cases hn : n = k
    · subst hn
      rw [if_pos rfl, if_pos (Nat.lt_succ_self _)]
    · have hv : ¬ n.val = k.val := fun e => hn (Fin.ext e)
      rw [if_neg hn]
      by_cases hl : n.val < k.val
      · rw [if_pos hl, if_pos (by omega)]
      · rw [if_neg hl, if_neg (by omega)]

theorem inv_all
    (h0 : ∀ (n : Fin 64) (b h : Fin 4) (c : Fin 64) (d : Fin 128), V (Proc.devRef .tc main_v81_0) (ix5 n b h c d)
      = Q b (n.val * 64 + c.val) (h.val * 128 + d.val) * Ideal.exp (cum lb (F b) n.val c.val (h.val * 128 + d.val)))
    (h1 : ∀ (n : Fin 64) (b h : Fin 4) (s : Fin 64) (d : Fin 128), V (Proc.devRef .tc main_v81_1) (ix5 n b h s d)
      = key lb (F b) (n.val * 64 + s.val) (h.val * 128 + d.val) * Ideal.exp (cum lb (F b) n.val 63 (h.val * 128 + d.val) - cum lb (F b) n.val s.val (h.val * 128 + d.val)))
    (h2 : ∀ (n : Fin 64) (b h : Fin 4) (s : Fin 64) (e : Fin 128), V (Proc.devRef .tc main_v81_2) (ix5 n b h s e) = I b (n.val * 64 + s.val) (h.val * 128 + e.val))
    (h3 : ∀ (n : Fin 64) (b h : Fin 4) (d : Fin 128), V (Proc.devRef .tc main_v81_3) (ix4 n b h d) = Ideal.exp (cum lb (F b) n.val 63 (h.val * 128 + d.val)))
    (h4 : V (Proc.devRef .tc main_v81_4) = fun _ => 0#32)
    (h5 : ∀ (b h : Fin 4) (d e : Fin 128), V (Proc.devRef .tc main_v81_5) (ix4 b h d e) = (0 : EReal))
    (h6 : ∀ (n : Fin 64) (b h : Fin 4) (c : Fin 64) (e : Fin 128), V (Proc.devRef .tc main_v81_6) (ix5 n b h c e) = (0 : EReal)) :
    ∀ k ≤ 64, Inv V lb F Q I k (STEP^[k] V) := by
  intro k
  induction k with
  | zero => exact fun _ => ⟨rfl, rfl, rfl, rfl, h4, fun b h d e => (h5 b h d e).trans rfl, fun n b h c e => (h6 n b h c e).trans (if_neg (Nat.not_lt_zero _)).symm⟩
  | succ k ih =>
    intro hk
    rw [Function.iterate_succ_apply']
    exact inv_step V lb F Q I ⟨k, hk⟩ _ (ih (by omega)) h0 h1 h2 h3
end
end Cert.MixRef
end
-- ==== Proof.MixRefEnd.lean ====
module

public import proofs.«01_k».proof.Proof.Gen.ReferenceIdeal.Run
public import proofs.«01_k».proof.Proof.MixSpec
public import Idealize.ShloMosaic.Lib.Pointwise
public import Idealize.ShloMosaic.Lib.Tactic.CleanTypes
public import Idealize.ShloMosaic.Lib.StableHlo.ReadAt
public import Idealize.ShloMosaic.Lib.WordCmp
public import Idealize.ShloMosaic.Lib.Claim

@[expose] public section

set_option maxRecDepth 16384
set_option maxHeartbeats 2000000

noncomputable section

/-! # The reference after its loop, at an index -/

namespace Cert.MixRef
open Idealize.ShloMosaic Idealize.ShloMosaic.TcCoe Idealize.SL.Sem Idealize.ShloMosaic.StableHlo
open Cert.ReferenceIdeal Cert.ReferenceIdeal.Value Cert.Mix

-- The buffers at the end, of the buffers after the loop. -/
abbrev P (X : Valuation τ sig (Elt Ideal)) : Valuation τ sig (Elt Ideal) := afterL postI X

section
variable (X : Valuation τ sig (Elt Ideal))

theorem pad_value : (FloatOps.sitofp FTy.f32 0#32 : Ideal .f32) = 0 := by
  show (((0#32 : BitVec 32).toInt : ℝ) : EReal) = 0
  simp

/-- The mix's row. -/
theorem P_v124 (lb gn : ℕ → EReal) (F Q I G B C U cw : ℕ → ℕ → EReal) (b : Fin 4)
    (hrec : ∀ (n : Fin 64) (h : Fin 4) (s : Fin 64) (d : Fin 128), HAdd.hAdd (α := EReal) (β := EReal)
      (X (Proc.devRef .tc main_v70) (ix5 n b h s d)) (X (Proc.devRef .tc main_v81_6) (ix5 n b h s d)) = rec lb F Q I n.val h.val s.val d.val)
    (h15 : ∀ l : Fin 512, X (Proc.devRef .tc main_v15) (ix1 l) = gn l.val)
    (h16 : ∀ (i : Fin 3) (l : Fin 512), X (Proc.devRef .tc main_v16) (ix2 i l) = cw i.val l.val)
    (h22 : ∀ (r : Fin 4096) (l : Fin 512), X (Proc.devRef .tc main_v22) (ix3 b r l) = G r.val l.val)
    (h23 : ∀ (r : Fin 4096) (l : Fin 512), X (Proc.devRef .tc main_v23) (ix3 b r l) = B r.val l.val)
    (h24 : ∀ (r : Fin 4096) (l : Fin 512), X (Proc.devRef .tc main_v24) (ix3 b r l) = C r.val l.val)
    (h25 : ∀ (r : Fin 4096) (l : Fin 512), X (Proc.devRef .tc main_v25) (ix3 b r l) = U r.val l.val)
    (r : Fin 4096) (q : Fin 1024) : (P X (Proc.devRef .tc main_v124)) (ix3 b r q) = mix lb F Q I gn G B C U cw r.val q.val := by
  unfold P
  simp only [afterL_cons, afterL_nil]
  after_reads_at
  have hlog : ∀ x : EReal, Ideal.logistic x = Ideal.div 1 (1 + Ideal.exp (-x)) := fun _ => rfl
  have e1 : r.val / 64 * 64 + r.val % 64 = r.val := by omega
  have e2 : q.val / 128 * 128 + q.val % 128 = q.val := by omega
  by_cases h : q.val < 512
  · refine (dif_pos h).trans (Eq.trans ?_ (if_pos h).symm)
    simp only [hrec, h15, h22]
    unfold gated
    simp only [hlog, e1, e2]
  · refine (dif_neg h).trans (Eq.trans ?_ (if_neg h).symm)
    have hl1 : (if h : (2 ≤ r.val ∧ r.val - 2 < 4096) ∧ q.val - 512 < 512 then C (r.val - 2) (q.val - 512) * U (r.val - 2) (q.val - 512) else 0) = lag C U r.val (q.val - 512) := by
      unfold lag
      split_ifs <;> first | rfl | (exfalso; omega)
    have hl2 : (if h : (2 ≤ 1 + r.val ∧ 1 + r.val - 2 < 4096) ∧ q.val - 512 < 512 then C (1 + r.val - 2) (q.val - 512) * U (1 + r.val - 2) (q.val - 512) else 0) = lag C U (r.val + 1) (q.val - 512) := by
      rw [Nat.add_comm 1 r.val]
      unfold lag
      split_ifs <;> first | rfl | (exfalso; omega)
    have hl3 : (if h : q.val - 512 < 512 then C r.val (q.val - 512) * U r.val (q.val - 512) else 0) = lag C U (r.val + 2) (q.val - 512) := by
      unfold lag
      split_ifs <;> first | rfl | (exfalso; omega)
    simp only [h16, h23, h24, h25, pad_value]
    unfold conv
    rw [← hl1, ← hl2, ← hl3]
    rfl

/-- The row before the layer norm. -/
theorem P_v128 (b : Fin 4) (r : Fin 4096) (i : Fin 1024) : (P X (Proc.devRef .tc main_v128)) (ix3 b r i)
    = HAdd.hAdd (α := EReal) (β := EReal) (HMul.hMul (α := EReal) (β := EReal) (Ideal.ofBits .f32 1066940400#32) (X (Proc.devRef .tc main_arg0) (ix3 b r i)))
        (∑ q : Fin 1024, HMul.hMul (α := EReal) (β := EReal) (P X (Proc.devRef .tc main_v124) (ix3 b r q)) (X (Proc.devRef .tc main_v17) (ix2 q i))) := by
  have e : P X (Proc.devRef .tc main_v128) = addf (F := Ideal) (φ := .f32) (s := S4x4096x1024)
      (mulf (F := Ideal) (φ := .f32) (s := S4x4096x1024) (broadcastInDim S4x4096x1024 ![] Gen.bcast_S_S4x4096x1024 (constant (F := Ideal) S_ .f32 0x3F9837F0#32)) (X (Proc.devRef .tc main_arg0)))
      (Host.dotGeneral (F := Ideal) (φ₁ := .f32) (φ₂ := .f32) dot_S4x4096x1024_S1024x1024_S4x4096x1024_2_0_01_1_n_n none (P X (Proc.devRef .tc main_v124)) (X (Proc.devRef .tc main_v17))) := by
    unfold P
    simp only [afterL_cons, afterL_nil]
    after_reads_simp
  rw [e]
  generalize P X (Proc.devRef .tc main_v124) = V
  pointwise

/-- The layer norm of the row. -/
theorem P_v152 (b : Fin 4) (r : Fin 4096) (i : Fin 1024) : (P X (Proc.devRef .tc main_v152)) (ix3 b r i)
    = lnRow (fun i => P X (Proc.devRef .tc main_v128) (ix3 b r i)) (fun i => X (Proc.devRef .tc main_arg6) (ix2 0 i)) (fun i => X (Proc.devRef .tc main_arg7) (ix2 0 i)) i := by
  have e1 : P X (Proc.devRef .tc main_v136) = subf (F := Ideal) (φ := .f32) (s := S4x4096x1024) (P X (Proc.devRef .tc main_v128))
      (broadcastInDim S4x4096x1024 ![0, 1, 2] Gen.bcast_S4x4096x1_S4x4096x1024_0_1_2 (Host.divf (F := Ideal) (φ := .f32) (s := S4x4096x1)
        (broadcastInDim S4x4096x1 ![0, 1] Gen.bcast_S4x4096_S4x4096x1_0_1 (Host.reduceAdd (F := Ideal) (φ := .f32) (P X (Proc.devRef .tc main_v128)) (constant (F := Ideal) S_ .f32 0x00000000#32) Gen.reducesTo_S4x4096x1024_S4x4096_d2 Gen.h_S_))
        (broadcastInDim S4x4096x1 ![] Gen.bcast_S_S4x4096x1 (constant (F := Ideal) S_ .f32 0x44800000#32)))) := by
    unfold P
    simp only [afterL_cons, afterL_nil]
    after_reads_simp
  have e2 : P X (Proc.devRef .tc main_v152) = addf (F := Ideal) (φ := .f32) (s := S4x4096x1024) (mulf (F := Ideal) (φ := .f32) (s := S4x4096x1024) (mulf (F := Ideal) (φ := .f32) (s := S4x4096x1024) (P X (Proc.devRef .tc main_v136))
      (broadcastInDim S4x4096x1024 ![0, 1, 2] Gen.bcast_S4x4096x1_S4x4096x1024_0_1_2 (Host.rsqrt (F := Ideal) (φ := .f32) (s := S4x4096x1) (addf (F := Ideal) (φ := .f32) (s := S4x4096x1) (Host.divf (F := Ideal) (φ := .f32) (s := S4x4096x1)
        (broadcastInDim S4x4096x1 ![0, 1] Gen.bcast_S4x4096_S4x4096x1_0_1 (Host.reduceAdd (F := Ideal) (φ := .f32) (mulf (F := Ideal) (φ := .f32) (s := S4x4096x1024) (P X (Proc.devRef .tc main_v136)) (P X (Proc.devRef .tc main_v136))) (constant (F := Ideal) S_ .f32 0x00000000#32) Gen.reducesTo_S4x4096x1024_S4x4096_d2 Gen.h_S_))
        (broadcastInDim S4x4096x1 ![] Gen.bcast_S_S4x4096x1 (constant (F := Ideal) S_ .f32 0x44800000#32)))
        (broadcastInDim S4x4096x1 ![] Gen.bcast_S_S4x4096x1 (constant (F := Ideal) S_ .f32 0x3727C5AC#32))))))
      (broadcastInDim S4x4096x1024 ![0, 1, 2] Gen.bcast_S1x1x1024_S4x4096x1024_0_1_2 (broadcastInDim S1x1x1024 ![2] Gen.bcast_S1024_S1x1x1024_2 (shapeCast S1024 (X (Proc.devRef .tc main_arg6)) Gen.shapeCasts_S1x1024_S1024))))
      (broadcastInDim S4x4096x1024 ![0, 1, 2] Gen.bcast_S1x1x1024_S4x4096x1024_0_1_2 (broadcastInDim S1x1x1024 ![2] Gen.bcast_S1024_S1x1x1024_2 (shapeCast S1024 (X (Proc.devRef .tc main_arg7)) Gen.shapeCasts_S1x1024_S1024))) := by
    unfold P
    simp only [afterL_cons, afterL_nil]
    after_reads_simp
    try rfl
  rw [e2, e1]
  generalize P X (Proc.devRef .tc main_v128) = V
  clean_types
  pointwise
  rfl
end
end Cert.MixRef
end
-- ==== Proof.MixRef.lean ====
module

public import proofs.«01_k».proof.Proof.Gen.ReferenceIdeal.Run
public import proofs.«01_k».proof.Proof.MixRefRead
public import proofs.«01_k».proof.Proof.MixRefLoop
public import proofs.«01_k».proof.Proof.MixRefEnd
public import Idealize.ShloMosaic.Lib.Pointwise
public import Idealize.ShloMosaic.Lib.Tactic.CleanTypes
public import Idealize.ShloMosaic.Lib.StableHlo.ReadAt
public import Idealize.ShloMosaic.Lib.WordCmp
public import Idealize.ShloMosaic.Lib.Claim

@[expose] public section

set_option maxRecDepth 16384
set_option maxHeartbeats 2000000

noncomputable section

/-! # The reference's mixer, from its arguments to its result -/

namespace Cert.MixRef
open Idealize.ShloMosaic Idealize.ShloMosaic.TcCoe Idealize.SL.Sem Idealize.ShloMosaic.StableHlo
open Cert.ReferenceIdeal Cert.ReferenceIdeal.Value Cert.Mix

/-- A buffer that neither the loop's condition nor its body writes keeps its contents through a trip. -/
theorem trip_keep (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W)
    (m : (ℓ : Loc nD τ sig) → Buf (Elt Ideal) ℓ) (c : Dev nD) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub _ _ while0Ops0_6_writes h6, after_of_writes_sub _ _ while0Ops0_5_writes h5, after_of_writes_sub _ _ while0Ops0_4_writes h4,
      after_of_writes_sub _ _ while0Ops0_3_writes h3, after_of_writes_sub _ _ while0Ops0_2_writes h2, after_of_writes_sub _ _ while0Ops0_1_writes h1,
      after_of_writes_sub _ _ while0Ops0_writes h0, after_of_writes_sub _ _ condOps_writes hc]
    exact trip_keep r hc h0 h1 h2 h3 h4 h5 h6 m c k

/-- What the loop and its condition write. -/
abbrev loopW : List (Ref sig .tc) := condOps_W ++ while0Ops0_W ++ while0Ops0_1_W ++ while0Ops0_2_W ++ while0Ops0_3_W ++ while0Ops0_4_W ++ while0Ops0_5_W ++ while0Ops0_6_W

/-- The buffers where the loop ends. -/
abbrev X64 (m : (ℓ : Loc nD τ sig) → Buf (Elt Ideal) ℓ) (c : Dev nD) : Valuation τ sig (Elt Ideal) := after condOps (atK m 64 c)

/-- A buffer the loop does not write is at its end as at its start. -/
theorem X64_keep (r : Ref sig .tc) (h : r ∉ loopW) (m : (ℓ : Loc nD τ sig) → Buf (Elt Ideal) ℓ) (c : Dev nD) :
    X64 m c (Proc.devRef .tc r) = entryContents preI m c (Proc.devRef .tc r) := by
  simp only [loopW, List.mem_append, not_or] at h
  obtain ⟨⟨⟨⟨⟨⟨⟨hc, h0⟩, h1⟩, h2⟩, h3⟩, h4⟩, h5⟩, h6⟩ := h
  exact (after_of_writes_sub _ _ condOps_writes hc).trans (trip_keep r hc h0 h1 h2 h3 h4 h5 h6 m c 64)

/-- What the operations before the loop write. -/
abbrev preW : List (Ref sig .tc) := hostOps0_W ++ hostOps0_1_W ++ hostOps0_2_W ++ hostOps0_3_W ++ hostOps0_4_W ++ hostOps0_5_W ++ hostOps0_6_W ++ hostOps0_7_W ++ hostOps0_8_W
/-- A buffer not written before the loop is there as launched. -/
theorem E_keep (r : Ref sig .tc) (h : r ∉ preW) (m : (ℓ : Loc nD τ sig) → Buf (Elt Ideal) ℓ) (c : Dev nD) :
    entryContents preI m c (Proc.devRef .tc r) = launchContents m c (Proc.devRef .tc r) := by
  simp only [preW, List.mem_append, not_or] at h
  obtain ⟨⟨⟨⟨⟨⟨⟨⟨h0, h1⟩, h2⟩, h3⟩, h4⟩, h5⟩, h6⟩, h7⟩, h8⟩ := h
  simp only [entryContents, afterL_cons, afterL_nil]
  rw [after_of_writes_sub _ _ hostOps0_8_writes h8, after_of_writes_sub _ _ hostOps0_7_writes h7, after_of_writes_sub _ _ hostOps0_6_writes h6, after_of_writes_sub _ _ hostOps0_5_writes h5, after_of_writes_sub _ _ hostOps0_4_writes h4,
      after_of_writes_sub _ _ hostOps0_3_writes h3, after_of_writes_sub _ _ hostOps0_2_writes h2, after_of_writes_sub _ _ hostOps0_1_writes h1,
      after_of_writes_sub _ _ hostOps0_writes h0]

/-- Nothing after the loop writes an argument. -/
theorem post_args (X : Valuation τ sig (Elt Ideal)) :
    afterL postI X (Proc.devRef .tc main_arg0) = X (Proc.devRef .tc main_arg0)
    ∧ afterL postI X (Proc.devRef .tc main_arg1) = X (Proc.devRef .tc main_arg1)
    ∧ afterL postI X (Proc.devRef .tc main_arg2) = X (Proc.devRef .tc main_arg2)
    ∧ afterL postI X (Proc.devRef .tc main_arg3) = X (Proc.devRef .tc main_arg3)
    ∧ afterL postI X (Proc.devRef .tc main_arg4) = X (Proc.devRef .tc main_arg4)
    ∧ afterL postI X (Proc.devRef .tc main_arg5) = X (Proc.devRef .tc main_arg5)
    ∧ afterL postI X (Proc.devRef .tc main_arg6) = X (Proc.devRef .tc main_arg6)
    ∧ afterL postI X (Proc.devRef .tc main_arg7) = X (Proc.devRef .tc main_arg7) := by
  simp only [afterL_cons, afterL_nil]
  refine ⟨?_, ?_, ?_, ?_, ?_, ?_, ?_, ?_⟩ <;> after_reads_simp

section
variable (m : (ℓ : Loc nD τ sig) → Buf (Elt Ideal) ℓ) (c : Dev nD)
/-- The arguments are written nowhere before the loop's end. -/
theorem keep_args : ∀ r ∈ ([main_arg0, main_arg1, main_arg2, main_arg3, main_arg4, main_arg5, main_arg6, main_arg7] : List (Ref sig .tc)), r ∉ preW ∧ r ∉ loopW := by
  decide +kernel
/-- The loop writes none of the values read after it but its own. -/
theorem keep_mids : ∀ r ∈ ([main_v15, main_v16, main_v17, main_v22, main_v23, main_v24, main_v25, main_v70] : List (Ref sig .tc)), r ∉ loopW := by
  decide +kernel

/-- An argument at the loop's end. -/
theorem X64_arg (r : Ref sig .tc) (h : r ∈ ([main_arg0, main_arg1, main_arg2, main_arg3, main_arg4, main_arg5, main_arg6, main_arg7] : List (Ref sig .tc))) :
    X64 m c (Proc.devRef .tc r) = launchContents m c (Proc.devRef .tc r) :=
  (X64_keep r (keep_args r h).2 m c).trans (E_keep r (keep_args r h).1 m c)

/-- The arguments at the end. -/
theorem final_args :
    finalContents condOps preI bodyI postI 64 m c (Proc.devRef .tc main_arg0) = launchContents m c (Proc.devRef .tc main_arg0)
    ∧ finalContents condOps preI bodyI postI 64 m c (Proc.devRef .tc main_arg1) = launchContents m c (Proc.devRef .tc main_arg1)
    ∧ finalContents condOps preI bodyI postI 64 m c (Proc.devRef .tc main_arg2) = launchContents m c (Proc.devRef .tc main_arg2)
    ∧ finalContents condOps preI bodyI postI 64 m c (Proc.devRef .tc main_arg3) = launchContents m c (Proc.devRef .tc main_arg3)
    ∧ finalContents condOps preI bodyI postI 64 m c (Proc.devRef .tc main_arg4) = launchContents m c (Proc.devRef .tc main_arg4)
    ∧ finalContents condOps preI bodyI postI 64 m c (Proc.devRef .tc main_arg5) = launchContents m c (Proc.devRef .tc main_arg5)
    ∧ finalContents condOps preI bodyI postI 64 m c (Proc.devRef .tc main_arg6) = launchContents m c (Proc.devRef .tc main_arg6)
    ∧ finalContents condOps preI bodyI postI 64 m c (Proc.devRef .tc main_arg7) = launchContents m c (Proc.devRef .tc main_arg7) := by
  obtain ⟨p0, p1, p2, p3, p4, p5, p6, p7⟩ := post_args (X64 m c)
  exact ⟨p0.trans (X64_arg m c _ (by simp)), p1.trans (X64_arg m c _ (by simp)), p2.trans (X64_arg m c _ (by simp)), p3.trans (X64_arg m c _ (by simp)),
    p4.trans (X64_arg m c _ (by simp)), p5.trans (X64_arg m c _ (by simp)), p6.trans (X64_arg m c _ (by simp)), p7.trans (X64_arg m c _ (by simp))⟩
end

/-- A layer norm of equal rows. -/
theorem lnRow_congr {a a' g g' b b' : Fin 1024 → EReal} (ha : ∀ i, a i = a' i) (hg : ∀ i, g i = g' i) (hb : ∀ i, b i = b' i) (l : Fin 1024) :
    lnRow a g b l = lnRow a' g' b' l := by
  rw [funext ha, funext hg, funext hb]

section
variable (m : (ℓ : Loc nD τ sig) → Buf (Elt Ideal) ℓ) (c : Dev nD)

/-- The rates at the loop's entry. -/
theorem q39 (b : Fin 4) (r : Fin 4096) (l : Fin 512) : (E m c (Proc.devRef .tc main_v39)) (ix3 b r l) = rate (lowR m c) (SR m c b 512) r.val l.val :=
  E_v39 m c b r l (E_v14 m c) (E_secs m c b r l).1

/-- The log rates. -/
theorem q54 (n : Fin 64) (b h : Fin 4) (s : Fin 64) (d : Fin 128) : (E m c (Proc.devRef .tc main_v54)) (ix5 n b h s d)
    = Ideal.log (rate (lowR m c) (SR m c b 512) (n.val * 64 + s.val) (h.val * 128 + d.val)) :=
  (E_v54 m c n b h s d).trans (congrArg Ideal.log (q39 m c b ⟨n.val * 64 + s.val, by omega⟩ ⟨h.val * 128 + d.val, by omega⟩))

/-- The log rates added up. -/
theorem q55 (n : Fin 64) (b h : Fin 4) (s : Fin 64) (d : Fin 128) : (E m c (Proc.devRef .tc main_v55)) (ix5 n b h s d)
    = cum (lowR m c) (SR m c b 512) n.val s.val (h.val * 128 + d.val) :=
  E_v55 m c n b h s d fun s => q54 m c n b h s d

/-- The keys. -/
theorem q50 (n : Fin 64) (b h : Fin 4) (s : Fin 64) (d : Fin 128) : (E m c (Proc.devRef .tc main_v50)) (ix5 n b h s d)
    = key (lowR m c) (SR m c b 512) (n.val * 64 + s.val) (h.val * 128 + d.val) :=
  (E_v50 m c n b h s d).trans (congrArg (fun x : EReal => 1 - x) (q39 m c b ⟨n.val * 64 + s.val, by omega⟩ ⟨h.val * 128 + d.val, by omega⟩))

/-- The queries. -/
theorem q48 (n : Fin 64) (b h : Fin 4) (s : Fin 64) (d : Fin 128) : (E m c (Proc.devRef .tc main_v48)) (ix5 n b h s d)
    = SR m c b 0 (n.val * 64 + s.val) (h.val * 128 + d.val) := by
  refine (E_v48 m c n b h s d).trans (Eq.trans ?_ (dif_pos ⟨by omega, by omega⟩).symm)
  simp only [Nat.zero_add]

/-- The inputs. -/
theorem q52 (n : Fin 64) (b h : Fin 4) (s : Fin 64) (d : Fin 128) : (E m c (Proc.devRef .tc main_v52)) (ix5 n b h s d)
    = SR m c b 1024 (n.val * 64 + s.val) (h.val * 128 + d.val) := by
  refine (E_v52 m c n b h s d).trans (Eq.trans ?_ (dif_pos ⟨by omega, by omega⟩).symm)
  rfl

/-- The chunks' own part. -/
theorem q70 (n : Fin 64) (b h : Fin 4) (s : Fin 64) (d : Fin 128) : (E m c (Proc.devRef .tc main_v70)) (ix5 n b h s d)
    = ∑ s' : Fin 64, (if s'.val ≤ s.val then score (lowR m c) (SR m c b 512) (SR m c b 0) n.val h.val s.val s'.val else 0) * SR m c b 1024 (n.val * 64 + s'.val) (h.val * 128 + d.val) :=
  E_v70 m c n b h s d
    (fun s' => E_v69 m c n b h s s' (E_v59 m c s s') (fun s d => E_v63 m c (q55 m c) (q48 m c) n b h s d) (fun s d => E_v67 m c (q55 m c) (q50 m c) n b h s d))
    (fun s => q52 m c n b h s d)

/-- The loop's values after its 64 trips. -/
theorem inv64 : Inv (E m c) (lowR m c) (fun b => SR m c b 512) (fun b => SR m c b 0) (fun b => SR m c b 1024) 64 (STEP^[64] (E m c)) :=
  inv_all (E m c) (lowR m c) (fun b => SR m c b 512) (fun b => SR m c b 0) (fun b => SR m c b 1024)
    (fun n b h s d => E_v72 m c (q55 m c) (q48 m c) n b h s d) (fun n b h s d => E_v76 m c (q55 m c) (q50 m c) n b h s d)
    (fun n b h s d => E_v81_2 m c (q52 m c) n b h s d) (fun n b h d => E_v78 m c (q55 m c) n b h d) (ctr_entry m c)
    (E_zero5 m c) (E_zero6 m c) 64 le_rfl

/-- The recurrence's output, after the loop. -/
theorem rec64 (n : Fin 64) (b h : Fin 4) (s : Fin 64) (d : Fin 128) : HAdd.hAdd (α := EReal) (β := EReal)
      (X64 m c (Proc.devRef .tc main_v70) (ix5 n b h s d)) (X64 m c (Proc.devRef .tc main_v81_6) (ix5 n b h s d))
    = rec (lowR m c) (SR m c b 512) (SR m c b 0) (SR m c b 1024) n.val h.val s.val d.val :=
  congrArg₂ (HAdd.hAdd (α := EReal) (β := EReal))
    ((congrFun (X64_keep main_v70 (keep_mids _ (by simp)) m c) _).trans (q70 m c n b h s d))
    ((congrFun ((cond_keeps (atK m 64 c) main_v81_6 (by simp)).trans (atK_agree m c 64 main_v81_6 (by simp))) _).trans
      (((inv64 m c).y6 n b h s d).trans (if_pos n.isLt)))

/-- A buffer kept by the loop, at an index. -/
theorem mid (r : Ref sig .tc) (h : r ∈ ([main_v15, main_v16, main_v17, main_v22, main_v23, main_v24, main_v25, main_v70] : List (Ref sig .tc))) :
    X64 m c (Proc.devRef .tc r) = E m c (Proc.devRef .tc r) := X64_keep r (keep_mids r h) m c
end

/-- The layer's value at an index, of the eight arguments. -/
def val (a0 : (⟨3, ![4, 4096, 1024]⟩ : Shape).Idx → EReal) (a1 : (⟨3, ![1, 1024, 3584]⟩ : Shape).Idx → EReal) (a2 : (⟨2, ![2, 512]⟩ : Shape).Idx → EReal)
    (a3 : (⟨2, ![1, 512]⟩ : Shape).Idx → EReal) (a4 : (⟨3, ![1, 3, 512]⟩ : Shape).Idx → EReal) (a5 : (⟨3, ![1, 1024, 1024]⟩ : Shape).Idx → EReal)
    (a6 a7 : (⟨2, ![1, 1024]⟩ : Shape).Idx → EReal) (b : Fin 4) (r : Fin 4096) (i : Fin 1024) : EReal :=
  lnRow (fun i => Ideal.ofBits .f32 1066940400#32 * a0 (ix3 b r i)
      + ∑ q : Fin 1024, mix (lower a2) (sec a0 a1 b 512) (sec a0 a1 b 0) (sec a0 a1 b 1024)
          (fun l => if h : l < 512 then a3 (ix2 0 ⟨l, h⟩) else 0) (sec a0 a1 b 1536) (sec a0 a1 b 2048) (sec a0 a1 b 2560) (sec a0 a1 b 3072)
          (fun i l => if h : i < 3 ∧ l < 512 then a4 (ix3 0 ⟨i, h.1⟩ ⟨l, h.2⟩) else 0) r.val q.val * a5 (ix3 0 q i))
    (fun i => a6 (ix2 0 i)) (fun i => a7 (ix2 0 i)) i

section
variable (m : (ℓ : Loc nD τ sig) → Buf (Elt Ideal) ℓ) (c : Dev nD)

/-- The mix's row at the end. -/
theorem fin124 (b : Fin 4) (r : Fin 4096) (q : Fin 1024) : (P (X64 m c) (Proc.devRef .tc main_v124)) (ix3 b r q)
    = mix (lowR m c) (SR m c b 512) (SR m c b 0) (SR m c b 1024)
        (fun l => if h : l < 512 then launchContents m c (Proc.devRef .tc main_arg3) (ix2 0 ⟨l, h⟩) else 0) (SR m c b 1536) (SR m c b 2048) (SR m c b 2560) (SR m c b 3072)
        (fun i l => if h : i < 3 ∧ l < 512 then launchContents m c (Proc.devRef .tc main_arg4) (ix3 0 ⟨i, h.1⟩ ⟨l, h.2⟩) else 0) r.val q.val := by
  refine P_v124 (X64 m c) (lowR m c) _ (SR m c b 512) (SR m c b 0) (SR m c b 1024) _ _ _ _ _ b (fun n h s d => rec64 m c n b h s d) ?_ ?_ ?_ ?_ ?_ ?_ r q
  · intro l
    refine (congrFun (mid m c main_v15 (by simp)) _).trans (((E_weights m c).1 l).trans ?_)
    simp only [l.isLt, dite_true]
  · intro i l
    refine (congrFun (mid m c main_v16 (by simp)) _).trans (((E_weights m c).2.1 i l).trans ?_)
    simp only [i.isLt, l.isLt, and_self, dite_true]
  · exact fun r l => (congrFun (mid m c main_v22 (by simp)) _).trans (E_secs m c b r l).2.1
  · exact fun r l => (congrFun (mid m c main_v23 (by simp)) _).trans (E_secs m c b r l).2.2.1
  · exact fun r l => (congrFun (mid m c main_v24 (by simp)) _).trans (E_secs m c b r l).2.2.2.1
  · exact fun r l => (congrFun (mid m c main_v25 (by simp)) _).trans (E_secs m c b r l).2.2.2.2

/-- The reference's result at an index. -/
theorem ref_apply (b : Fin 4) (r : Fin 4096) (i : Fin 1024) : (finalContents condOps preI bodyI postI 64 m c (Proc.devRef .tc main_v152)) (ix3 b r i)
    = val (launchContents m c (Proc.devRef .tc main_arg0)) (launchContents m c (Proc.devRef .tc main_arg1)) (launchContents m c (Proc.devRef .tc main_arg2))
        (launchContents m c (Proc.devRef .tc main_arg3)) (launchContents m c (Proc.devRef .tc main_arg4)) (launchContents m c (Proc.devRef .tc main_arg5))
        (launchContents m c (Proc.devRef .tc main_arg6)) (launchContents m c (Proc.devRef .tc main_arg7)) b r i :=
  (P_v152 (X64 m c) b r i).trans (lnRow_congr
    (fun i => (P_v128 (X64 m c) b r i).trans (congrArg₂ (HAdd.hAdd (α := EReal) (β := EReal))
      (congrArg (HMul.hMul (α := EReal) (β := EReal) (Ideal.ofBits .f32 1066940400#32)) (congrFun (X64_arg m c main_arg0 (by simp)) (ix3 b r i)))
      (Finset.sum_congr rfl fun q _ => congrArg₂ (HMul.hMul (α := EReal) (β := EReal)) (fin124 m c b r q)
        ((congrFun (mid m c main_v17 (by simp)) (ix2 q i)).trans ((E_weights m c).2.2 q i)))))
    (fun i => congrFun (X64_arg m c main_arg6 (by simp)) (ix2 0 i)) (fun i => congrFun (X64_arg m c main_arg7 (by simp)) (ix2 0 i)) i)
end

end Cert.MixRef
end
-- ==== Proof.Mix.lean ====
module

public import proofs.«01_k».proof.Defs
public import proofs.«01_k».proof.Proof.MixRun
public import proofs.«01_k».proof.Proof.MixRef

@[expose] public section

noncomputable section

/-! # The mixer call's claims -/

namespace Cert.MixRef

open Idealize.ShloMosaic Idealize.ShloMosaic.TcCoe Idealize.SL.Sem Idealize.ShloMosaic.StableHlo
open Cert.ReferenceIdeal Cert.ReferenceIdeal.Value

/-- The reference runs: its result is the fold's, its arguments end as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v152) = finalContents condOps preI bodyI postI 64 m c (Proc.devRef .tc main_v152)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => by
    obtain ⟨k0, k1, k2, k3, k4, k5, k6, k7⟩ := final_args m c
    exact ⟨h c main_v152 rfl, (h c main_arg0 rfl).trans k0, (h c main_arg1 rfl).trans k1, (h c main_arg2 rfl).trans k2, (h c main_arg3 rfl).trans k3,
      (h c main_arg4 rfl).trans k4, (h c main_arg5 rfl).trans k5, (h c main_arg6 rfl).trans k6, (h c main_arg7 rfl).trans k7⟩) (run_fold m ρ)

/-- The result at an index, of the arguments as launched. -/
theorem ref_at (m : (ℓ : Loc nD τ sig) → Buf (Elt Ideal) ℓ) (c : Dev nD) (b : Fin 4) (r : Fin 4096) (i : Fin 1024) :
    (finalContents condOps preI bodyI postI 64 m c (Proc.devRef .tc main_v152)) (ix3 b r i)
      = val (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b r i :=
  ref_apply m c b r i

end Cert.MixRef

namespace Cert.Proof

open Idealize.ShloMosaic Idealize.ShloMosaic.TcCoe Idealize.SL.Sem

/-- The reference's frame: its run, read at the arguments; it declares no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.MixRef.run m ρ)

/-- At the extended reals the mixer call's result is the reference's, index by index. -/
theorem algebraic_mix : Cert.algebraic_KernelIdeal_ReferenceIdeal := by
  intro m ρ m' ρ' _ hagree
  refine ⟨fun c => Cert.MixTile.G m c, Cert.MixTile.run m ρ, ?_⟩
  refine (θ_run Cert.ReferenceIdeal.defs _ _).mono (fun _ h c => ⟨(h c).1.trans ?_, (h c).2⟩) (Cert.MixRef.run m' ρ')
  refine funext fun (y : Cert.KernelIdeal.S4x4096x1024.Idx) => ?_
  obtain ⟨b, r, l, rfl⟩ : ∃ (b : Fin 4) (r : Fin 4096) (l : Fin 1024), y = ix3 b r l :=
    ⟨y 0, y 1, y 2, funext fun a => by fin_cases a <;> rfl⟩
  refine (Cert.MixRef.ref_at m' c b r l).trans ?_
  obtain ⟨e0, e1, e2, e3, e4, e5, e6, e7⟩ := hagree c
  rw [e0, e1, e2, e3, e4, e5, e6, e7]
  rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Mlp
public import proofs.«01_k».proof.Proof.Mix
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    fun m ρ _ => Cert.Kernel.Gen.frame m ρ, fun m ρ _ => Cert.KernelIdeal.Gen.frame m ρ, frame_ReferenceIdeal,
    fun m ρ _ => Cert.Kernel2.Gen.frame m ρ, fun m ρ _ => Cert.Kernel2Ideal.Gen.frame m ρ, frame_Reference2Ideal,
    trivial, algebraic_mix, trivial, algebraic_mlp⟩

end Cert.Proof

end
